-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_255" .f32 0x3B808081#32 ((1 / 255 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S50000x128 : Shape := ⟨2, ![50000, 128]⟩
abbrev S50000x512 : Shape := ⟨2, ![50000, 512]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S50000x128 .f32) (main_arg1 : FVec F S50000x512 .f32) (main_arg2 : FVec F S256x128 .f32) (main_arg3 : FVec F S256 .f32) (main_arg4 : FVec F S256 .f32) (main_arg5 : FVec F S256 .f32) (main_arg6 : FVec F S128x256 .f32) (main_arg7 : FVec F S128 .f32) (main_arg8 : FVec F S128x256 .f32) (main_arg9 : FVec F S128 .f32) (main_arg10 : FVec F S128 .f32) (main_arg11 : FVec F S128 .f32) : IVec S256 1 × IVec S256 1 :=
  let main_v0 : FVec F S256 .f32 := Host.absf main_arg3
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256 .f32 := Host.absf main_arg4
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  (main_v2, main_v5)
-- ==== Kernel.lean ====
abbrev S50000x128 : Shape := ⟨2, ![50000, 128]⟩
abbrev S50000x512 : Shape := ⟨2, ![50000, 512]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x256 : Shape := ⟨2, ![1, 256]⟩
abbrev S1x128 : Shape := ⟨2, ![1, 128]⟩
abbrev S2000x128 : Shape := ⟨2, ![2000, 128]⟩
abbrev S2000x512 : Shape := ⟨2, ![2000, 512]⟩
abbrev S512x128 : Shape := ⟨2, ![512, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 24
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x512, .f32⟩
  | .hbm, ⟨2, _⟩ => ⟨S256x128, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x256, .f32⟩
  | .hbm, ⟨13, _⟩ => ⟨S256, .f32⟩
  | .hbm, ⟨14, _⟩ => ⟨S256, .f32⟩
  | .hbm, ⟨15, _⟩ => ⟨S1x256, .f32⟩
  | .hbm, ⟨16, _⟩ => ⟨S128x256, .f32⟩
  | .hbm, ⟨17, _⟩ => ⟨S256x128, .f32⟩
  | .hbm, ⟨18, _⟩ => ⟨S1x128, .f32⟩
  | .hbm, ⟨19, _⟩ => ⟨S256x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x512, .f32⟩
  | .local _ .vmem, ⟨3, _⟩ => ⟨S2000x512, .f32⟩
  | .local _ .vmem, ⟨4, _⟩ => ⟨S128x256, .f32⟩
  | .local _ .vmem, ⟨5, _⟩ => ⟨S1x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S50000x512, .i8⟩
  | .local _ .vmem, ⟨16, _⟩ => ⟨S50000x128, .bf16⟩
  | .local _ .vmem, ⟨17, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c2000_i32 : BitVec 32 := 2000#32
  let v13 : BitVec 32 := Scalar.muli arg1 c2000_i32
  let v14 : Index := Scalar.indexCast v13
  let c0_4 : Index := 0#32
  ![v14.toNat, 0]
def k0_off2 (i : grid0.Coords) : Fin 2 → Nat :=
  let arg1 : BitVec 32 := BitVec.ofNat 32 (i 1).val
  let c2000_i32_20 : BitVec 32 := 2000#32
  let v44 : BitVec 32 := Scalar.muli arg1 c2000_i32_20
  let v45 : Index := Scalar.indexCast v44
  let c0_21 : Index := 0#32
  ![v45.toNat, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 2 → Nat :=
  let arg1 : BitVec 32 := BitVec.ofNat 32 (i 1).val
  let c2000_i32 : BitVec 32 := 2000#32
  let v11 : BitVec 32 := Scalar.muli arg1 c2000_i32
  let v12 : Index := Scalar.indexCast v11
  let c0_3 : Index := 0#32
  ![v12.toNat, 0]
def k0_off4 (i : grid0.Coords) : Fin 2 → Nat :=
  let arg1 : BitVec 32 := BitVec.ofNat 32 (i 1).val
  let c2000_i32_7 : BitVec 32 := 2000#32
  let v22 : BitVec 32 := Scalar.muli arg1 c2000_i32_7
  let v23 : Index := Scalar.indexCast v22
  let c0_8 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "inv_255" => some ((1 / 255 : ℝ) : EReal)
  | _ => none
-- ==== ReferenceIdeal.lean ====
abbrev S50000x128 : Shape := ⟨2, ![50000, 128]⟩
abbrev S50000x512 : Shape := ⟨2, ![50000, 512]⟩
abbrev S256x128 : Shape := ⟨2, ![256, 128]⟩
abbrev S256 : Shape := ⟨1, ![256]⟩
abbrev S128x256 : Shape := ⟨2, ![128, 256]⟩
abbrev S128 : Shape := ⟨1, ![128]⟩
abbrev S50000x256 : Shape := ⟨2, ![50000, 256]⟩
abbrev S1x256 : Shape := ⟨2, ![1, 256]⟩
abbrev S_ : Shape := ⟨0, ![]⟩
abbrev S1x128 : Shape := ⟨2, ![1, 128]⟩
abbrev S512x50000 : Shape := ⟨2, ![512, 50000]⟩
abbrev S512x128 : Shape := ⟨2, ![512, 128]⟩
abbrev S50000 : Shape := ⟨1, ![50000]⟩
abbrev S50000x1 : Shape := ⟨2, ![50000, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x512, .f32⟩
  | .hbm, ⟨2, _⟩ => ⟨S256x128, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x256, .f32⟩
  | .hbm, ⟨13, _⟩ => ⟨S50000x256, .f32⟩
  | .hbm, ⟨14, _⟩ => ⟨S1x256, .f32⟩
  | .hbm, ⟨15, _⟩ => ⟨S50000x256, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S1x256, .f32⟩
  | .hbm, ⟨21, _⟩ => ⟨S50000x256, .f32⟩
  | .hbm, ⟨22, _⟩ => ⟨S50000x256, .f32⟩
  | .hbm, ⟨23, _⟩ => ⟨S_, .f32⟩
  | .hbm, ⟨24, _⟩ => ⟨S50000x256, .f32⟩
  | .hbm, ⟨25, _⟩ => ⟨S50000x256, .f32⟩
  | .hbm, ⟨26, _⟩ => ⟨S256x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S512x50000, .f32⟩
  | .hbm, ⟨32, _⟩ => ⟨S512x128, .f32⟩
  | .hbm, ⟨33, _⟩ => ⟨S_, .f32⟩
  | .hbm, ⟨34, _⟩ => ⟨S50000x512, .f32⟩
  | .hbm, ⟨35, _⟩ => ⟨S50000x512, .f32⟩
  | .hbm, ⟨36, _⟩ => ⟨S_, .f32⟩
  | .hbm, ⟨37, _⟩ => ⟨S50000x512, .f32⟩
  | .hbm, ⟨38, _⟩ => ⟨S50000x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S50000x512, .f32⟩
  | .hbm, ⟨43, _⟩ => ⟨S50000x512, .f32⟩
  | .hbm, ⟨44, _⟩ => ⟨S_, .f32⟩
  | .hbm, ⟨45, _⟩ => ⟨S50000x512, .f32⟩
  | .hbm, ⟨46, _⟩ => ⟨S50000x512, .f32⟩
  | .hbm, ⟨47, _⟩ => ⟨S50000x512, .i32⟩
  | .hbm, ⟨48, _⟩ => ⟨S50000x512, .f32⟩
  | .hbm, ⟨49, _⟩ => ⟨S_, .f32⟩
  | .hbm, ⟨50, _⟩ => ⟨S50000x512, .f32⟩
  | .hbm, ⟨51, _⟩ => ⟨S50000x512, .f32⟩
  | .hbm, ⟨52, _⟩ => ⟨S_, .f32⟩
  | .hbm, ⟨53, _⟩ => ⟨S50000x512, .f32⟩
  | .hbm, ⟨54, _⟩ => ⟨S50000x512, .f32⟩
  | .hbm, ⟨55, _⟩ => ⟨S50000x128, .f32⟩
  | .hbm, ⟨56, _⟩ => ⟨S256x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S50000x1, .f32⟩
  | .hbm, ⟨65, _⟩ => ⟨S_, .f32⟩
  | .hbm, ⟨66, _⟩ => ⟨S50000x1, .f32⟩
  | .hbm, ⟨67, _⟩ => ⟨S50000x1, .f32⟩
  | .hbm, ⟨68, _⟩ => ⟨S_, .i32⟩
  | .hbm, ⟨69, _⟩ => ⟨S_, .f32⟩
  | .hbm, ⟨70, _⟩ => ⟨S50000, .f32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S50000x1, .f32⟩
  | .hbm, ⟨85, _⟩ => ⟨S50000x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x1, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_c : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_cst_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_cst_1 : Ref sig .tc := ⟨.hbm, 79, rfl⟩
abbrev main_call2_v8 : Ref sig .tc := ⟨.hbm, 80, rfl⟩
abbrev main_call2_cst_2 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_cst_3 : Ref sig .tc := ⟨.hbm, 86, rfl⟩
abbrev main_call2_v13 : Ref sig .tc := ⟨.hbm, 87, rfl⟩
abbrev main_call2_cst_4 : Ref sig .tc := ⟨.hbm, 88, rfl⟩
abbrev main_call2_call0_v0 : Ref sig .tc := ⟨.hbm, 89, rfl⟩
abbrev main_call2_call0_v1 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_7 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_call3_cst : Ref sig .tc := ⟨.hbm, 106, rfl⟩
abbrev main_call3_v0 : Ref sig .tc := ⟨.hbm, 107, rfl⟩
abbrev main_v55 : Ref sig .tc := ⟨.hbm, 108, rfl⟩

abbrev nD : Nat := 1
abbrev τ : Topo := Topo.v7x

variable {F : FTy → Type} [FloatOps F]
-- ==== Proof.Conds.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.ValueKit

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

variable {F : FTy → Type} [FloatOps F] [Named F]

local notation "𝕄" => MT nD τ sig Unit (Elt F) ℕ (UR sig nD τ) ℕ

/-! ## The body's branch conditions in the number of the grid point -/

/-- The condition of the first accumulation, in the grid coordinates. -/
abbrev isInit (i : grid0.Coords) : Prop :=
  (Scalar.cmpi .ne (Scalar.extui (Scalar.cmpi .eq (BitVec.ofNat 32 (i 1).val) 0#32)) 0#32) = 1#1
/-- The condition of the later accumulations, in the grid coordinates. -/
abbrev isAcc (i : grid0.Coords) : Prop :=
  (Scalar.cmpi .ne (Scalar.extui (Scalar.cmpi .sgt (BitVec.ofNat 32 (i 1).val) 0#32)) 0#32) = 1#1

/-- The first phase is the first 25 points. -/
theorem fill_iff : ∀ t : Fin cfg0.N, k0_cond1 (grid0.coords t) = 1#1 ↔ t.val < 25 :=
  (by decide +kernel : ∀ t : Fin grid0.N, k0_cond1 (grid0.coords t) = 1#1 ↔ t.val < 25)
/-- The second phase is the last 25 points. -/
theorem emit_iff : ∀ t : Fin cfg0.N, k0_cond4 (grid0.coords t) = 1#1 ↔ 25 ≤ t.val :=
  (by decide +kernel : ∀ t : Fin grid0.N, k0_cond4 (grid0.coords t) = 1#1 ↔ 25 ≤ t.val)
/-- The sum is started at the points whose second coordinate is zero. -/
theorem init_iff : ∀ t : Fin cfg0.N, isInit (grid0.coords t) ↔ t.val % 25 = 0 :=
  (by decide +kernel : ∀ t : Fin grid0.N, isInit (grid0.coords t) ↔ t.val % 25 = 0)
/-- The sum is continued at the other points. -/
theorem acc_iff : ∀ t : Fin cfg0.N, isAcc (grid0.coords t) ↔ t.val % 25 ≠ 0 :=
  (by decide +kernel : ∀ t : Fin grid0.N, isAcc (grid0.coords t) ↔ t.val % 25 ≠ 0)
/-- The second coordinate of a point. -/
theorem coord_one : ∀ t : Fin cfg0.N, (grid0.coords t 1).val = t.val % 25 :=
  (by decide +kernel : ∀ t : Fin grid0.N, (grid0.coords t 1).val = t.val % 25)

end Cert.KernelIdeal.Fused

end
-- ==== Proof.RunInit.lean ====
module

public import proofs.«01_k».proof.Proof.Conds

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The body at the first point: the blocks' codes and residuals are stored into their rows, and the sum is started at this block's part. -/
theorem fill_init (c : Dev nD) (i : grid0.Coords) (arg2 : Memref sig .tc .vmem S2000x128 .f32) (harg2 : arg2.IsWhole)
    (arg3 : Memref sig .tc .vmem S2000x512 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S256x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S2000x128 .f32) (harg13 : arg13.IsWhole)
    (arg14 : Memref sig .tc .vmem S50000x512 .i8) (harg14 : arg14.IsWhole)
    (arg15 : Memref sig .tc .vmem S50000x128 .bf16) (harg15 : arg15.IsWhole)
    (arg16 : Memref sig .tc .vmem S512x128 .f32) (harg16 : arg16.IsWhole)
    (x0 : Vec F S2000x128 .f32) (x1 : Vec F S2000x512 .f32) (x2 : Vec F S128x256 .f32) (x3 : Vec F S1x256 .f32) (x4 : Vec F S1x256 .f32) (x5 : Vec F S256x128 .f32) (x6 : Vec F S1x128 .f32) (x7 : Vec F S256x128 .f32) (x8 : Vec F S1x128 .f32) (x9 : Vec F S1x128 .f32) (x10 : Vec F S1x128 .f32)
    (d0 : Vec F S50000x512 .i8) (d1 : Vec F S50000x128 .bf16) (d2 : Vec F S512x128 .f32)
    (h0 : k0_cond1 i = 1#1) (h1 : isInit i) (h2 : ¬isAcc i) (h3 : ¬k0_cond4 i = 1#1) (d3 : Vec F S2000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d3 ∗ owns (c : Thread nD τ) arg14 fullShare d0 ∗ owns (c : Thread nD τ) arg15 fullShare d1 ∗ owns (c : Thread nD τ) arg16 fullShare d2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d3 ∗ owns (c : Thread nD τ) arg14 fullShare (VecWindow.put d0 (k0_off1 i) S2000x512.size (k0_pay7 x1)) ∗ owns (c : Thread nD τ) arg15 fullShare (VecWindow.put d1 (k0_off2 i) S2000x128.size (k0_pay1 (k0_pay9 x0 x2 x3 x4 x7 x8))) ∗ owns (c : Thread nD τ) arg16 fullShare (k0_pay3 (k0_pay6 x1) (k0_pay8 x0 x2 x3 x4) x5 x6)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg14.eq_unread hfs0; obtain rfl := harg15.eq_unread hfs1; obtain rfl := harg16.eq_unread hfs2
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; exact hf11
  isplitl [HS0]
  · iexists _; isplitr; swap; · iexact HS0
    ipureintro
    rw [View.read_writes_cons_put _ _ _ _ _ rfl, View.writes_nil, hfs0, View.readAt_full, hf1]
  isplitl [HS1]
  · iexists _; isplitr; swap; · iexact HS1
    ipureintro
    rw [View.read_writes_cons_put _ _ _ _ _ rfl, View.writes_nil, hfs1]
    delta fill_init.sl.r_2
    rw [View.readAt_full arg2.view, View.readAt_full arg4.view, View.readAt_full arg5.view, View.readAt_full arg6.view, View.readAt_full arg9.view, View.readAt_full arg10.view, hf0, hf2, hf3, hf4, hf7, hf8]
  iexists _; isplitr; swap; · iexact HS2
  ipureintro
  rw [View.read_writes_full]
  delta fill_init.sl.r fill_init.sl.r_1
  rw [View.readAt_full arg2.view, View.readAt_full arg3.view, View.readAt_full arg4.view, View.readAt_full arg5.view, View.readAt_full arg6.view, View.readAt_full arg7.view, View.readAt_full arg8.view, hf0, hf1, hf2, hf3, hf4, hf5, hf6]

end Cert.KernelIdeal.Fused

end
-- ==== Proof.RunAcc.lean ====
module

public import proofs.«01_k».proof.Proof.RunInit

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The body at a later point of the first phase: the blocks' codes and residuals are stored into their rows, and this block's part is added to the sum. -/
theorem fill_acc (c : Dev nD) (i : grid0.Coords) (arg2 : Memref sig .tc .vmem S2000x128 .f32) (harg2 : arg2.IsWhole)
    (arg3 : Memref sig .tc .vmem S2000x512 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S256x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S2000x128 .f32) (harg13 : arg13.IsWhole)
    (arg14 : Memref sig .tc .vmem S50000x512 .i8) (harg14 : arg14.IsWhole)
    (arg15 : Memref sig .tc .vmem S50000x128 .bf16) (harg15 : arg15.IsWhole)
    (arg16 : Memref sig .tc .vmem S512x128 .f32) (harg16 : arg16.IsWhole)
    (x0 : Vec F S2000x128 .f32) (x1 : Vec F S2000x512 .f32) (x2 : Vec F S128x256 .f32) (x3 : Vec F S1x256 .f32) (x4 : Vec F S1x256 .f32) (x5 : Vec F S256x128 .f32) (x6 : Vec F S1x128 .f32) (x7 : Vec F S256x128 .f32) (x8 : Vec F S1x128 .f32) (x9 : Vec F S1x128 .f32) (x10 : Vec F S1x128 .f32)
    (d0 : Vec F S50000x512 .i8) (d1 : Vec F S50000x128 .bf16) (d2 : Vec F S512x128 .f32)
    (h0 : k0_cond1 i = 1#1) (h1 : ¬isInit i) (h2 : isAcc i) (h3 : ¬k0_cond4 i = 1#1) (d3 : Vec F S2000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d3 ∗ owns (c : Thread nD τ) arg14 fullShare d0 ∗ owns (c : Thread nD τ) arg15 fullShare d1 ∗ owns (c : Thread nD τ) arg16 fullShare d2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d3 ∗ owns (c : Thread nD τ) arg14 fullShare (VecWindow.put d0 (k0_off1 i) S2000x512.size (k0_pay7 x1)) ∗ owns (c : Thread nD τ) arg15 fullShare (VecWindow.put d1 (k0_off2 i) S2000x128.size (k0_pay1 (k0_pay9 x0 x2 x3 x4 x7 x8))) ∗ owns (c : Thread nD τ) arg16 fullShare (k0_pay4 (k0_pay6 x1) (k0_pay8 x0 x2 x3 x4) x5 x6 d2)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg14.eq_unread hfs0; obtain rfl := harg15.eq_unread hfs1; obtain rfl := harg16.eq_unread hfs2
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; exact hf11
  isplitl [HS0]
  · iexists _; isplitr; swap; · iexact HS0
    ipureintro
    rw [View.read_writes_cons_put _ _ _ _ _ rfl, View.writes_nil, hfs0, View.readAt_full, hf1]
  isplitl [HS1]
  · iexists _; isplitr; swap; · iexact HS1
    ipureintro
    rw [View.read_writes_cons_put _ _ _ _ _ rfl, View.writes_nil, hfs1]
    delta fill_acc.sl.r_2
    rw [View.readAt_full arg2.view, View.readAt_full arg4.view, View.readAt_full arg5.view, View.readAt_full arg6.view, View.readAt_full arg9.view, View.readAt_full arg10.view, hf0, hf2, hf3, hf4, hf7, hf8]
  iexists _; isplitr; swap; · iexact HS2
  ipureintro
  rw [View.read_writes_full]
  delta fill_acc.sl.r fill_acc.sl.r_1
  rw [View.readAt_full arg2.view, View.readAt_full arg3.view, View.readAt_full arg4.view, View.readAt_full arg5.view, View.readAt_full arg6.view, View.readAt_full arg7.view, View.readAt_full arg8.view, hf0, hf1, hf2, hf3, hf4, hf5, hf6, View.readAt_full arg16.view, hfs2]

end Cert.KernelIdeal.Fused

end
-- ==== Proof.RunEmit.lean ====
module

public import proofs.«01_k».proof.Proof.RunAcc

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The body at a point of the second phase: the output block is computed from the sum, the stored codes and the stored residuals of its rows. -/
theorem emit (c : Dev nD) (i : grid0.Coords) (arg2 : Memref sig .tc .vmem S2000x128 .f32) (harg2 : arg2.IsWhole)
    (arg3 : Memref sig .tc .vmem S2000x512 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S256x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S2000x128 .f32) (harg13 : arg13.IsWhole)
    (arg14 : Memref sig .tc .vmem S50000x512 .i8) (harg14 : arg14.IsWhole)
    (arg15 : Memref sig .tc .vmem S50000x128 .bf16) (harg15 : arg15.IsWhole)
    (arg16 : Memref sig .tc .vmem S512x128 .f32) (harg16 : arg16.IsWhole)
    (x0 : Vec F S2000x128 .f32) (x1 : Vec F S2000x512 .f32) (x2 : Vec F S128x256 .f32) (x3 : Vec F S1x256 .f32) (x4 : Vec F S1x256 .f32) (x5 : Vec F S256x128 .f32) (x6 : Vec F S1x128 .f32) (x7 : Vec F S256x128 .f32) (x8 : Vec F S1x128 .f32) (x9 : Vec F S1x128 .f32) (x10 : Vec F S1x128 .f32)
    (d0 : Vec F S50000x512 .i8) (d1 : Vec F S50000x128 .bf16) (d2 : Vec F S512x128 .f32)
    (h0 : ¬k0_cond1 i = 1#1) (h3 : k0_cond4 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare d0 ∗ owns (c : Thread nD τ) arg15 fullShare d1 ∗ owns (c : Thread nD τ) arg16 fullShare d2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay5 (k0_pay10 d2 (VecWindow.window d0 (k0_off3 i) S2000x512.size (k0_off3_inb i h3)) (VecWindow.window d1 (k0_off4 i) S2000x128.size (k0_off4_inb i h3)) x9) x10) ∗ owns (c : Thread nD τ) arg14 fullShare d0 ∗ owns (c : Thread nD τ) arg15 fullShare d1 ∗ owns (c : Thread nD τ) arg16 fullShare d2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  obtain rfl := harg14.eq_unread hfs0; obtain rfl := harg15.eq_unread hfs1; obtain rfl := harg16.eq_unread hfs2
  sl_exec (disch := first | sl_exact h0 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    rw [View.read_writes_full]
    delta emit.sl.r
    rw [View.readAt_full arg16.view, View.readAt_full arg11.view, View.readAt_full arg12.view, View.readAt_unit arg14.view _ _ rfl (k0_off3_inb i h3), View.readAt_unit arg15.view _ _ rfl (k0_off4_inb i h3), hf9, hf10, hfs0, hfs1, hfs2]
  isplitl [HS0]
  · iexists _; isplitr; swap; · iexact HS0
    ipureintro; exact hfs0
  isplitl [HS1]
  · iexists _; isplitr; swap; · iexact HS1
    ipureintro; exact hfs1
  iexists _; isplitr; swap; · iexact HS2
  ipureintro; exact hfs2

end Cert.KernelIdeal.Fused

end
-- ==== Proof.Data.lean ====
module

public import proofs.«01_k».proof.Proof.RunEmit

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## What the scratch buffers carry from point to point -/

/-- The grid point of number `n`. -/
def pt (n : ℕ) : Fin cfg0.N := ⟨n % 50, lt_of_lt_of_eq (Nat.mod_lt _ (by decide)) N_0.symm⟩

/-- A grid point is the one of its number. -/
theorem pt_val (t : Fin cfg0.N) : pt t.val = t :=
  Fin.ext (Nat.mod_eq_of_lt (lt_of_lt_of_eq t.isLt N_0))

/-- The 8-bit codes of the `k`-th block of rows of `H`. -/
def codesAt (c : Dev nD) (k : ℕ) : Vec F S2000x512 .i8 := k0_pay7 (iblk m c 1 (pt k))

/-- The residual branch of the `k`-th block of rows. -/
def resAt (c : Dev nD) (k : ℕ) : Vec F S2000x128 .bf16 :=
  k0_pay1 (k0_pay9 (iblk m c 0 (pt k)) (iblk m c 2 (pt k)) (iblk m c 3 (pt k)) (iblk m c 4 (pt k)) (iblk m c 7 (pt k)) (iblk m c 8 (pt k)))

/-- The sum of the parts of the first `n + 1` blocks of rows. -/
def heAt (c : Dev nD) : ℕ → Vec F S512x128 .f32
  | 0 => k0_pay3 (k0_pay6 (iblk m c 1 (pt 0))) (k0_pay8 (iblk m c 0 (pt 0)) (iblk m c 2 (pt 0)) (iblk m c 3 (pt 0)) (iblk m c 4 (pt 0))) (iblk m c 5 (pt 0)) (iblk m c 6 (pt 0))
  | n + 1 => k0_pay4 (k0_pay6 (iblk m c 1 (pt (n + 1)))) (k0_pay8 (iblk m c 0 (pt (n + 1))) (iblk m c 2 (pt (n + 1))) (iblk m c 3 (pt (n + 1))) (iblk m c 4 (pt (n + 1)))) (iblk m c 5 (pt (n + 1))) (iblk m c 6 (pt (n + 1))) (heAt c n)

/-- The output block of a point of the second phase. -/
def outAt (c : Dev nD) (t : Fin cfg0.N) : Vec F S2000x128 .f32 :=
  k0_pay5 (k0_pay10 (heAt m c 24) (codesAt m c (t.val % 25)) (resAt m c (t.val % 25)) (iblk m c 9 t)) (iblk m c 10 t)

/-- The `k`-th block of rows lies inside the code buffer. -/
theorem inb_codes (k : ℕ) (hk : k < 25) : ∀ a, (![2000 * k, 0] : Fin S50000x512.rank → ℕ) a + S2000x512.size a ≤ S50000x512.size a :=
  Fin.forall_fin_two.mpr ⟨by show 2000 * k + 2000 ≤ 50000; omega, by show 0 + 512 ≤ 512; omega⟩
/-- The `k`-th block of rows lies inside the residual buffer. -/
theorem inb_res (k : ℕ) (hk : k < 25) : ∀ a, (![2000 * k, 0] : Fin S50000x128.rank → ℕ) a + S2000x128.size a ≤ S50000x128.size a :=
  Fin.forall_fin_two.mpr ⟨by show 2000 * k + 2000 ≤ 50000; omega, by show 0 + 128 ≤ 128; omega⟩

/-- The two row buffers hold the codes and residuals of the first `n` blocks. -/
def Stored (c : Dev nD) (n : ℕ) (d0 : Vec F S50000x512 .i8) (d1 : Vec F S50000x128 .bf16) : Prop :=
  ∀ (k : ℕ) (hk : k < 25), k < n →
    VecWindow.window d0 ![2000 * k, 0] S2000x512.size (inb_codes k hk) = codesAt m c k
    ∧ VecWindow.window d1 ![2000 * k, 0] S2000x128.size (inb_res k hk) = resAt m c k

/-- A window at offsets given two ways. -/
theorem window_at {α : Type} {s : Shape} (x : s.Idx → α) (off off' size : Fin s.rank → ℕ) (h : off = off') (inb : ∀ a, off a + size a ≤ s.size a)
    (inb' : ∀ a, off' a + size a ≤ s.size a) : VecWindow.window x off size inb = VecWindow.window x off' size inb' := by
  subst h; rfl

/-- Storing the next block's codes and residuals extends what the row buffers hold by that block. -/
theorem Stored.next {c : Dev nD} {n : ℕ} {d0 : Vec F S50000x512 .i8} {d1 : Vec F S50000x128 .bf16} (h : Stored m c n d0 d1) (hn : n < 25)
    (o0 : Fin S50000x512.rank → ℕ) (e0 : o0 = ![2000 * n, 0]) (o1 : Fin S50000x128.rank → ℕ) (e1 : o1 = ![2000 * n, 0]) :
    Stored m c (n + 1) (VecWindow.put d0 o0 S2000x512.size (codesAt m c n)) (VecWindow.put d1 o1 S2000x128.size (resAt m c n)) := by
  subst e0 e1
  intro k hk hkn
  rcases Nat.lt_succ_iff_lt_or_eq.mp hkn with hlt | rfl
  · have hd : 2000 * k + 2000 ≤ 2000 * n := by omega
    constructor
    · rw [VecWindow.window_put_of_disjoint d0 _ _ _ _ (inb_codes k hk) _ (0 : Fin 2) (Or.inl hd)]
      exact (h k hk hlt).1
    · rw [VecWindow.window_put_of_disjoint d1 _ _ _ _ (inb_res k hk) _ (0 : Fin 2) (Or.inl hd)]
      exact (h k hk hlt).2
  · exact ⟨VecWindow.window_put_same _ _ _ (inb_codes k hk) _, VecWindow.window_put_same _ _ _ (inb_res k hk) _⟩

/-- Before the first block nothing is asked of the row buffers. -/
theorem Stored.none (c : Dev nD) (d0 : Vec F S50000x512 .i8) (d1 : Vec F S50000x128 .bf16) : Stored m c 0 d0 d1 :=
  fun _ _ h => absurd h (Nat.not_lt_zero _)

/-- Once all 25 blocks are in, a larger count asks nothing more. -/
theorem Stored.full {c : Dev nD} {n n' : ℕ} {d0 : Vec F S50000x512 .i8} {d1 : Vec F S50000x128 .bf16} (h : Stored m c n d0 d1) (hn : 25 ≤ n) :
    Stored m c n' d0 d1 := fun k hk _ => h k hk (lt_of_lt_of_le hk hn)

/-- The three scratch buffers. -/
abbrev sc0 : Memref sig .tc .vmem S50000x512 .i8 := Memref.whole cc0_scratch0
abbrev sc1 : Memref sig .tc .vmem S50000x128 .bf16 := Memref.whole cc0_scratch1
abbrev sc2 : Memref sig .tc .vmem S512x128 .f32 := Memref.whole cc0_scratch2

/-- The invariant before the point of number `n`. -/
def Phi (c : Dev nD) : ℕ → sProp 𝕄
  | 0 => Pipeline.ΦA spec0 c
  | n + 1 => iprop(∃ d0 d1, ⌜Stored m c (n + 1) d0 d1⌝ ∗ owns (c : Thread nD τ) sc0 fullShare d0 ∗ owns (c : Thread nD τ) sc1 fullShare d1
      ∗ owns (c : Thread nD τ) sc2 fullShare (heAt m c (min n 24)) ∗ (∃ r, prngReg c r))

/-- The invariant before a point that is not the first. -/
theorem Phi_pos (c : Dev nD) (n : ℕ) : Phi m c (n + 1) = iprop(∃ d0 d1, ⌜Stored m c (n + 1) d0 d1⌝ ∗ owns (c : Thread nD τ) sc0 fullShare d0 ∗ owns (c : Thread nD τ) sc1 fullShare d1
      ∗ owns (c : Thread nD τ) sc2 fullShare (heAt m c (min n 24)) ∗ (∃ r, prngReg c r)) := rfl

/-- The launch's class invariant: the scratch buffers and the generator register at anything. -/
theorem PhiA_eq (c : Dev nD) : Pipeline.ΦA spec0 c = (iprop(iprop((∃ d, owns (c : Thread nD τ) sc0 fullShare d) ∗ (∃ d, owns (c : Thread nD τ) sc1 fullShare d) ∗ (∃ d, owns (c : Thread nD τ) sc2 fullShare d)) ∗ (∃ r, prngReg c r)) : sProp 𝕄) := by
  unfold Pipeline.ΦA; rw [scopedRest0_eq]; simp only [sc0, sc1, sc2, owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := Phi m c t.val
  q _ := fullShare
  owed _ := 0

/-- The arrays are those the region finds. -/
theorem A_eq (c : Dev nD) (w : Fin cfg0.W) : (dats m 0 c).A w = V m c (Pipeline.arrRef spec0 w) := by
  dsimp only [dats]
/-- Window 0's buffer is left at its block. -/
theorem after_0 (c : Dev nD) (t : Fin cfg0.N) : (dats m 0 c).after 0 t = iblk m c 0 t := by dsimp only [dats]
/-- Window 0's buffer is found at its block. -/
theorem before_0 (c : Dev nD) (t : Fin cfg0.N) (d) : (dats m 0 c).before 0 t d = iblk m c 0 t :=
  before0_0_of m (dats m 0 c) (A_eq m c 0) (after_0 m c) t d
/-- Window 0's buffer as the body returns it. -/
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
/-- Window 1's buffer is left at its block. -/
theorem after_1 (c : Dev nD) (t : Fin cfg0.N) : (dats m 0 c).after 1 t = iblk m c 1 t := by dsimp only [dats]
/-- Window 1's buffer is found at its block. -/
theorem before_1 (c : Dev nD) (t : Fin cfg0.N) (d) : (dats m 0 c).before 1 t d = iblk m c 1 t :=
  before0_1_of m (dats m 0 c) (A_eq m c 1) (after_1 m c) t d
/-- Window 1's buffer as the body returns it. -/
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
/-- Window 2's buffer is left at its block. -/
theorem after_2 (c : Dev nD) (t : Fin cfg0.N) : (dats m 0 c).after 2 t = iblk m c 2 t := by dsimp only [dats]
/-- Window 2's buffer is found at its block. -/
theorem before_2 (c : Dev nD) (t : Fin cfg0.N) (d) : (dats m 0 c).before 2 t d = iblk m c 2 t :=
  before0_2_of m (dats m 0 c) (A_eq m c 2) (after_2 m c) t d
/-- Window 2's buffer as the body returns it. -/
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
/-- Window 3's buffer is left at its block. -/
theorem after_3 (c : Dev nD) (t : Fin cfg0.N) : (dats m 0 c).after 3 t = iblk m c 3 t := by dsimp only [dats]
/-- Window 3's buffer is found at its block. -/
theorem before_3 (c : Dev nD) (t : Fin cfg0.N) (d) : (dats m 0 c).before 3 t d = iblk m c 3 t :=
  before0_3_of m (dats m 0 c) (A_eq m c 3) (after_3 m c) t d
/-- Window 3's buffer as the body returns it. -/
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
/-- Window 4's buffer is left at its block. -/
theorem after_4 (c : Dev nD) (t : Fin cfg0.N) : (dats m 0 c).after 4 t = iblk m c 4 t := by dsimp only [dats]
/-- Window 4's buffer is found at its block. -/
theorem before_4 (c : Dev nD) (t : Fin cfg0.N) (d) : (dats m 0 c).before 4 t d = iblk m c 4 t :=
  before0_4_of m (dats m 0 c) (A_eq m c 4) (after_4 m c) t d
/-- Window 4's buffer as the body returns it. -/
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
/-- Window 5's buffer is left at its block. -/
theorem after_5 (c : Dev nD) (t : Fin cfg0.N) : (dats m 0 c).after 5 t = iblk m c 5 t := by dsimp only [dats]
/-- Window 5's buffer is found at its block. -/
theorem before_5 (c : Dev nD) (t : Fin cfg0.N) (d) : (dats m 0 c).before 5 t d = iblk m c 5 t :=
  before0_5_of m (dats m 0 c) (A_eq m c 5) (after_5 m c) t d
/-- Window 5's buffer as the body returns it. -/
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
/-- Window 6's buffer is left at its block. -/
theorem after_6 (c : Dev nD) (t : Fin cfg0.N) : (dats m 0 c).after 6 t = iblk m c 6 t := by dsimp only [dats]
/-- Window 6's buffer is found at its block. -/
theorem before_6 (c : Dev nD) (t : Fin cfg0.N) (d) : (dats m 0 c).before 6 t d = iblk m c 6 t :=
  before0_6_of m (dats m 0 c) (A_eq m c 6) (after_6 m c) t d
/-- Window 6's buffer as the body returns it. -/
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
/-- Window 7's buffer is left at its block. -/
theorem after_7 (c : Dev nD) (t : Fin cfg0.N) : (dats m 0 c).after 7 t = iblk m c 7 t := by dsimp only [dats]
/-- Window 7's buffer is found at its block. -/
theorem before_7 (c : Dev nD) (t : Fin cfg0.N) (d) : (dats m 0 c).before 7 t d = iblk m c 7 t :=
  before0_7_of m (dats m 0 c) (A_eq m c 7) (after_7 m c) t d
/-- Window 7's buffer as the body returns it. -/
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
/-- Window 8's buffer is left at its block. -/
theorem after_8 (c : Dev nD) (t : Fin cfg0.N) : (dats m 0 c).after 8 t = iblk m c 8 t := by dsimp only [dats]
/-- Window 8's buffer is found at its block. -/
theorem before_8 (c : Dev nD) (t : Fin cfg0.N) (d) : (dats m 0 c).before 8 t d = iblk m c 8 t :=
  before0_8_of m (dats m 0 c) (A_eq m c 8) (after_8 m c) t d
/-- Window 8's buffer as the body returns it. -/
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]
/-- Window 9's buffer is left at its block. -/
theorem after_9 (c : Dev nD) (t : Fin cfg0.N) : (dats m 0 c).after 9 t = iblk m c 9 t := by dsimp only [dats]
/-- Window 9's buffer is found at its block. -/
theorem before_9 (c : Dev nD) (t : Fin cfg0.N) (d) : (dats m 0 c).before 9 t d = iblk m c 9 t :=
  before0_9_of m (dats m 0 c) (A_eq m c 9) (after_9 m c) t d
/-- Window 9's buffer as the body returns it. -/
theorem leaves_9 (c : Dev nD) (t : Fin cfg0.N) : (dats m 0 c).leavesExact 9 t = owns (c : Thread nD τ) (st0_9 t) fullShare (iblk m c 9 t) := by
  unfold Dat.leavesExact; rw [show cfg0.idle 9 (grid0.coords t) = false from rfl, after_9]
/-- Window 10's buffer is left at its block. -/
theorem after_10 (c : Dev nD) (t : Fin cfg0.N) : (dats m 0 c).after 10 t = iblk m c 10 t := by dsimp only [dats]
/-- Window 10's buffer is found at its block. -/
theorem before_10 (c : Dev nD) (t : Fin cfg0.N) (d) : (dats m 0 c).before 10 t d = iblk m c 10 t :=
  before0_10_of m (dats m 0 c) (A_eq m c 10) (after_10 m c) t d
/-- Window 10's buffer as the body returns it. -/
theorem leaves_10 (c : Dev nD) (t : Fin cfg0.N) : (dats m 0 c).leavesExact 10 t = owns (c : Thread nD τ) (st0_10 t) fullShare (iblk m c 10 t) := by
  unfold Dat.leavesExact; rw [show cfg0.idle 10 (grid0.coords t) = false from rfl, after_10]
/-- The output's buffer is left at the output block. -/
theorem after_11 (c : Dev nD) (t : Fin cfg0.N) : (dats m 0 c).after 11 t = outAt m c t := by dsimp only [dats]

/-- The output window is idle in the first phase. -/
theorem idle_fill (t : Fin cfg0.N) (h : ¬k0_cond4 (grid0.coords t) = 1#1) : cfg0.idle 11 (grid0.coords t) = true := by
  show (!(k0_cond4 (grid0.coords t) == 1#1)) = true
  rw [beq_eq_false_iff_ne.mpr h]; rfl
/-- The output window is live in the second phase. -/
theorem idle_emit (t : Fin cfg0.N) (h : k0_cond4 (grid0.coords t) = 1#1) : cfg0.idle 11 (grid0.coords t) = false := by
  show (!(k0_cond4 (grid0.coords t) == 1#1)) = false
  rw [beq_iff_eq.mpr h]; rfl
/-- The output is written back exactly at the points of the second phase. -/
theorem flush_out : ∀ t : Fin cfg0.N, (cfg0.win 11).flush t = true ↔ 25 ≤ t.val :=
  (by decide +kernel : ∀ t : Fin grid0.N, win0_11.flush t = true ↔ 25 ≤ t.val)
/-- The output's buffer as the body returns it in the first phase. -/
theorem leaves_fill (c : Dev nD) (t : Fin cfg0.N) (h : t.val < 25) (h' : ¬k0_cond4 (grid0.coords t) = 1#1) :
    (dats m 0 c).leavesExact 11 t = iprop(∃ d, owns (c : Thread nD τ) (st0_11 t) fullShare ((dats m 0 c).before 11 t d)) :=
  Dat.leavesExact_idle _ 11 t (idle_fill t h') (by
    rcases hb : (cfg0.win 11).flush t with _ | _
    · rfl
    · exact absurd ((flush_out t).mp hb) (by omega))
/-- The output's buffer as the body returns it in the second phase. -/
theorem leaves_emit (c : Dev nD) (t : Fin cfg0.N) (h' : k0_cond4 (grid0.coords t) = 1#1) :
    (dats m 0 c).leavesExact 11 t = owns (c : Thread nD τ) (st0_11 t) fullShare (outAt m c t) := by
  unfold Dat.leavesExact; rw [show cfg0.idle 11 (cfg0.grid.coords t) = false from idle_emit t h', after_11]

end Cert.KernelIdeal.Fused

end
-- ==== Proof.Launch.lean ====
module

public import proofs.«01_k».proof.Proof.Data

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The invariant at a point's start. -/
theorem Phi_castSucc (c : Dev nD) (t : Fin cfg0.N) : (dats m 0 c).Φ t.castSucc = Phi m c t.val := by
  dsimp only [dats]; rfl
/-- The invariant at a point's end. -/
theorem Phi_succ (c : Dev nD) (t : Fin cfg0.N) : (dats m 0 c).Φ t.succ = iprop(∃ d0 d1, ⌜Stored m c (t.val + 1) d0 d1⌝ ∗ owns (c : Thread nD τ) sc0 fullShare d0 ∗ owns (c : Thread nD τ) sc1 fullShare d1
      ∗ owns (c : Thread nD τ) sc2 fullShare (heAt m c (min t.val 24)) ∗ (∃ r, prngReg c r)) := by
  dsimp only [dats]; rfl

set_option maxHeartbeats 4000000 in
/-- The body at any point carries the invariant on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl]
  rw [Phi_castSucc, Phi_succ, leaves_0, leaves_1, leaves_2, leaves_3, leaves_4, leaves_5, leaves_6, leaves_7, leaves_8, leaves_9, leaves_10]
  have hN : t.val < 50 := lt_of_lt_of_eq t.isLt N_0
  by_cases ht : t.val < 25
  · have h0 := (fill_iff t).mpr ht
    have h3 : ¬k0_cond4 (grid0.coords t) = 1#1 := fun h => absurd ((emit_iff t).mp h) (by omega)
    rw [leaves_fill m c t ht h3]
    have oa : k0_off1 (grid0.coords t) = ![2000 * t.val, 0] := by rw [k0_off1_eq, coord_one, Nat.mod_eq_of_lt ht]
    have ob : k0_off2 (grid0.coords t) = ![2000 * t.val, 0] := by rw [k0_off2_eq, coord_one, Nat.mod_eq_of_lt ht]
    have ec : k0_pay7 (iblk m c 1 t) = codesAt m c t.val := by unfold codesAt; rw [pt_val]
    have er : k0_pay1 (k0_pay9 (iblk m c 0 t) (iblk m c 2 t) (iblk m c 3 t) (iblk m c 4 t) (iblk m c 7 t) (iblk m c 8 t)) = resAt m c t.val := by unfold resAt; rw [pt_val]
    rw [show min t.val 24 = t.val by omega]
    by_cases hz : t.val = 0
    · have h1 := (init_iff t).mpr (by omega)
      have h2 : ¬isAcc (grid0.coords t) := fun h => (acc_iff t).mp h (by omega)
      have eh : k0_pay3 (k0_pay6 (iblk m c 1 t)) (k0_pay8 (iblk m c 0 t) (iblk m c 2 t) (iblk m c 3 t) (iblk m c 4 t)) (iblk m c 5 t) (iblk m c 6 t) = heAt m c t.val := by
        rw [hz]; unfold heAt; rw [show pt 0 = t from by rw [← hz, pt_val]]
      rw [show Phi m c t.val = Pipeline.ΦA spec0 c by rw [hz]; rfl, PhiA_eq]
      iintro ⟨⟨⟨⟨%d0, HS0⟩, ⟨%d1, HS1⟩, ⟨%d2, HS2⟩⟩, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%d3, H11⟩⟩
      iapply fill_init c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) d0 d1 d2 h0 h1 h2 h3 ((dats m 0 c).before 11 t d3) Set.univ _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      iintro ⟨G0, G1, G2, G3, G4, G5, G6, G7, G8, G9, G10, G11, GS0, GS1, GS2⟩
      isplitl [GS0 GS1 GS2 Hr]
      · iexists _, _; isplitr; swap
        · isplitl [GS0]; · iexact GS0
          isplitl [GS1]; · iexact GS1
          isplitl [GS2]; · rw [← eh]; iexact GS2
          iexact Hr
        ipureintro
        rw [ec, er]
        exact Stored.next m (hz ▸ Stored.none m c d0 d1) ht _ oa _ ob
      isplitl [Ho]; · iexact Ho
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      iexists d3; iexact G11
    · obtain ⟨n, hn⟩ := Nat.exists_eq_succ_of_ne_zero hz
      have h1 : ¬isInit (grid0.coords t) := fun h => absurd ((init_iff t).mp h) (by omega)
      have h2 := (acc_iff t).mpr (by omega)
      have eh : k0_pay4 (k0_pay6 (iblk m c 1 t)) (k0_pay8 (iblk m c 0 t) (iblk m c 2 t) (iblk m c 3 t) (iblk m c 4 t)) (iblk m c 5 t) (iblk m c 6 t) (heAt m c n) = heAt m c t.val := by
        rw [hn]; show _ = heAt m c (n + 1); rw [heAt, show pt (n + 1) = t from by rw [← pt_val t, hn]]
      rw [show Phi m c t.val = Phi m c (n + 1) by rw [hn], Phi_pos,
        show min n 24 = n by omega]
      iintro ⟨⟨%d0, %d1, %hst, HS0, HS1, HS2, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%d3, H11⟩⟩
      iapply fill_acc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) d0 d1 (heAt m c n) h0 h1 h2 h3 ((dats m 0 c).before 11 t d3) Set.univ _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      iintro ⟨G0, G1, G2, G3, G4, G5, G6, G7, G8, G9, G10, G11, GS0, GS1, GS2⟩
      isplitl [GS0 GS1 GS2 Hr]
      · iexists _, _; isplitr; swap
        · isplitl [GS0]; · iexact GS0
          isplitl [GS1]; · iexact GS1
          isplitl [GS2]; · rw [← eh]; iexact GS2
          iexact Hr
        ipureintro
        rw [ec, er]
        exact Stored.next m (show Stored m c t.val d0 d1 from hn ▸ hst) ht _ oa _ ob
      isplitl [Ho]; · iexact Ho
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      iexists d3; iexact G11
  · have h0 : ¬k0_cond1 (grid0.coords t) = 1#1 := fun h => ht ((fill_iff t).mp h)
    have h3 := (emit_iff t).mpr (by omega)
    have hm : t.val % 25 < 25 := Nat.mod_lt _ (by decide)
    rw [leaves_emit m c t h3]
    obtain ⟨n, hn⟩ := Nat.exists_eq_succ_of_ne_zero (show t.val ≠ 0 by omega)
    rw [show Phi m c t.val = Phi m c (n + 1) by rw [hn], Phi_pos,
      show min n 24 = 24 by omega, show min t.val 24 = 24 by omega]
    iintro ⟨⟨%d0, %d1, %hst, HS0, HS1, HS2, Hr⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%d3, H11⟩⟩
    have hs := hst (t.val % 25) hm (by omega)
    have eo : k0_pay5 (k0_pay10 (heAt m c 24) (VecWindow.window d0 (k0_off3 (grid0.coords t)) S2000x512.size (k0_off3_inb (grid0.coords t) h3)) (VecWindow.window d1 (k0_off4 (grid0.coords t)) S2000x128.size (k0_off4_inb (grid0.coords t) h3)) (iblk m c 9 t)) (iblk m c 10 t) = outAt m c t := by
      rw [window_at d0 (k0_off3 (grid0.coords t)) ![2000 * (t.val % 25), 0] S2000x512.size (by rw [k0_off3_eq, coord_one]) _ (inb_codes _ hm),
        window_at d1 (k0_off4 (grid0.coords t)) ![2000 * (t.val % 25), 0] S2000x128.size (by rw [k0_off4_eq, coord_one]) _ (inb_res _ hm), hs.1, hs.2]
      rfl
    iapply emit c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) d0 d1 (heAt m c 24) h0 h3 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    iintro ⟨G0, G1, G2, G3, G4, G5, G6, G7, G8, G9, G10, G11, GS0, GS1, GS2⟩
    isplitl [GS0 GS1 GS2 Hr]
    · iexists d0, d1; isplitr
      · ipureintro; exact Stored.full m hst (by omega)
      isplitl [GS0]; · iexact GS0
      isplitl [GS1]; · iexact GS1
      isplitl [GS2]; · iexact GS2
      iexact Hr
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    rw [← eo]; iexact G11

/-- The pipeline calls the body on the point's buffers. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) : Pipeline.BodyObligation (dats (F := F) m 0 c) defs₀ Variants.none () Set.univ := fun t => by
  rw [bigSep_W0, bigSep_W0, defs₀_row]
  exact triple_restated (sound_body m c t) rfl .rfl fun _ => .rfl

/-- The invariant before the first point is the launch's. -/
theorem hin (c : Dev nD) : Pipeline.ΦA spec0 c ⊢ (dats m 0 c).Φ 0 := by
  dsimp only [dats]; exact Entails.refl _

/-- The invariant after the last point gives the launch's back. -/
theorem hout (c : Dev nD) : (dats m 0 c).Φ (Fin.last cfg0.N) ⊢ Pipeline.ΦA spec0 c := by
  rw [show (dats m 0 c).Φ (Fin.last cfg0.N) = Phi m c (49 + 1) by dsimp only [dats]; exact congrArg (Phi m c) N_0, PhiA_eq, Phi_pos m c 49]
  iintro ⟨%d0, %d1, %hst, HS0, HS1, HS2, Hr⟩
  isplitl [HS0 HS1 HS2]
  · isplitl [HS0]; · iexists d0; iexact HS0
    isplitl [HS1]; · iexists d1; iexact HS1
    iexists _; iexact HS2
  iexact Hr

set_option backward.isDefEq.respectTransparency.types false in
/-- Every execution of the idealized kernel ends with the arrays at the pipeline's proof data and all counters at zero. -/
theorem run_main : θ_run defs (onTc (τ := τ) (main (F := F))) (s₀ m ρ) (fun r => Pipeline.FramePost cfgs (dats m) 0 (V m) r ∧ r.2.sem = (fun _ => 0)) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hin := hin m) (hout := hout m)

end Cert.KernelIdeal.Fused

end
-- ==== Proof.Printed.lean ====
module

public import proofs.«01_k».proof.Defs
public import proofs.«01_k».proof.Proof.Gen.Kernel
public import proofs.«01_k».proof.Proof.Gen.KernelIdeal
public import proofs.«01_k».proof.Proof.Launch
public import Idealize.ShloMosaic.Lib.Quiescent
public import Idealize.ShloMosaic.Adequacy
public import Idealize.ShloMosaic.Init

@[expose] public section

set_option maxRecDepth 16384

noncomputable section

namespace Cert.Kernel.Fused

open Idealize.ShloMosaic Idealize.ShloMosaic.TcCoe Idealize.SL.Sem

/-- The named constant at bit level: the float its bits spell. -/
@[reducible] def bits : Named Bits := ⟨fun _ _ _ b => Scalar.ofBits _ b⟩

/-- The printed kernel's body is the idealized kernel's, its named constant read by its bits. -/
theorem defs₀_tc (l : Cert.Kernel.Λ₀.Label) (a : Cert.Kernel.Λ₀.Args l) :
    Cert.Kernel.defs₀ (F := Bits) .tc l a = (letI := bits; Cert.KernelIdeal.defs₀ (F := Bits)) .tc l a := by
  obtain ⟨_ | n, h⟩ := l
  · obtain ⟨t, s⟩ := a
    rfl
  · exact absurd h (Nat.not_lt.2 (Nat.le_add_left _ _))

/-- The same, on every processor. -/
theorem defs₀_eq : Cert.Kernel.defs₀ (F := Bits) = (letI := bits; Cert.KernelIdeal.defs₀ (F := Bits)) := by
  funext p l a
  cases p with
  | tc => exact defs₀_tc l a
  | scScalar _ => rfl
  | scVector _ _ => rfl

/-- The two programs have the same body table. -/
theorem defs_eq : Cert.Kernel.defs (F := Bits) = (letI := bits; Cert.KernelIdeal.defs (F := Bits)) :=
  congrArg (fun d => Pipeline.defs (Cert.Kernel.pcfgs (F := Bits)) d) defs₀_eq

/-- The printed kernel ends with its arguments unchanged and every counter at zero. -/
theorem frame : Cert.quiescent_Kernel := by
  intro m ρ _
  rw [defs_eq]
  exact letI := bits; θ_run_with_sems (Cert.KernelIdeal.Gen.frame_of m ρ (Cert.KernelIdeal.Fused.dats m) (fun c w => Cert.KernelIdeal.Fused.A_eq m c w)) (Cert.KernelIdeal.Fused.run_main m ρ)

end Cert.Kernel.Fused

end
-- ==== Proof.Reads.lean ====
module

public import proofs.«01_k».proof.Proof.Launch
public import Idealize.ShloMosaic.Lib.Pipeline.ValueKit

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

variable (m : (ℓ : Loc nD τ sig) → Buf (Elt Ideal) ℓ) (c : Dev nD)

/-! ## The blocks the windows bring, entry by entry -/

/-- The row windows of the first phase move one block a point. -/
theorem idx_rows : ∀ t : Fin cfg0.N, t.val < 25 → win0_0.index t = ![t.val, 0] ∧ win0_1.index t = ![t.val, 0] :=
  (by decide +kernel : ∀ t : Fin grid0.N, t.val < 25 → win0_0.index t = ![t.val, 0] ∧ win0_1.index t = ![t.val, 0])

/-- The parameter windows stay. -/
theorem idx_params : ∀ t : Fin cfg0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0])

/-- The output window of the second phase moves one block a point. -/
theorem idx_out : ∀ t : Fin cfg0.N, 25 ≤ t.val → win0_11.index t = ![t.val % 25, 0] :=
  (by decide +kernel : ∀ t : Fin grid0.N, 25 ≤ t.val → win0_11.index t = ![t.val % 25, 0])

/-- The point of the first phase's `k`-th block. -/
theorem pt_lt (k : Fin 25) : (pt k.val).val = k.val := Nat.mod_eq_of_lt (by omega)

/-- The row of number `i` in block `k`. -/
abbrev rowOf (k : Fin 25) (i : Fin 2000) : Fin 50000 := ⟨k.val * 2000 + i.val, by omega⟩

/-- A block of rows of `X`. -/
theorem rd_0 (k : Fin 25) (i : Fin 2000) (j : Fin 128) :
    (show FVec Ideal S2000x128 .f32 from iblk m c 0 (pt k.val)) (ix2 i j) = (show FVec Ideal S50000x128 .f32 from m ((c : Thread nD τ).loc main_arg0)) (ix2 (rowOf k i) j) := by
  have h := (idx_rows (pt k.val) (by rw [pt_lt]; exact k.isLt)).1
  rw [pt_lt] at h
  blk_ext [iblk, V, h]

/-- A block of rows of `H`. -/
theorem rd_1 (k : Fin 25) (i : Fin 2000) (j : Fin 512) :
    (show FVec Ideal S2000x512 .f32 from iblk m c 1 (pt k.val)) (ix2 i j) = (show FVec Ideal S50000x512 .f32 from m ((c : Thread nD τ).loc main_arg1)) (ix2 (rowOf k i) j) := by
  have h := (idx_rows (pt k.val) (by rw [pt_lt]; exact k.isLt)).2
  rw [pt_lt] at h
  blk_ext [iblk, V, h]

/-- The first weight, transposed. -/
theorem rd_2 (t : Fin cfg0.N) (i : Fin 128) (j : Fin 256) :
    (show FVec Ideal S128x256 .f32 from iblk m c 2 t) (ix2 i j) = (show FVec Ideal S256x128 .f32 from m ((c : Thread nD τ).loc main_arg2)) (ix2 j i) := by
  have h := idx_params t
  have e : (show FVec Ideal S128x256 .f32 from iblk m c 2 t) (ix2 i j) = (show FVec Ideal S128x256 .f32 from V m c main_call0_v4) (ix2 i j) := by
    blk_ext [iblk, h]
  refine e.trans ?_
  entry_read
  simp -implicitDefEqProofs only [StableHlo.TRef.toBuf, StableHlo.TRef.ofBuf, cast_cast, cast_eq]
  pointwise []
  blk_ext []

/-- The first scale, as a row. -/
theorem rd_3 (t : Fin cfg0.N) (i : Fin 1) (j : Fin 256) :
    (show FVec Ideal S1x256 .f32 from iblk m c 3 t) (ix2 i j) = (show FVec Ideal S256 .f32 from m ((c : Thread nD τ).loc main_arg4)) (ix1 j) := by
  have h := idx_params t
  have e : (show FVec Ideal S1x256 .f32 from iblk m c 3 t) (ix2 i j) = (show FVec Ideal S1x256 .f32 from V m c main_call0_v0) (ix2 i j) := by
    blk_ext [iblk, h]
  refine e.trans ?_
  entry_read
  pointwise []
  blk_ext []

/-- The first bias folded into the shift. -/
theorem rd_4 (t : Fin cfg0.N) (i : Fin 1) (j : Fin 256) :
    (show FVec Ideal S1x256 .f32 from iblk m c 4 t) (ix2 i j) = (show FVec Ideal S256 .f32 from m ((c : Thread nD τ).loc main_arg3)) (ix1 j) * (show FVec Ideal S256 .f32 from m ((c : Thread nD τ).loc main_arg4)) (ix1 j) + (show FVec Ideal S256 .f32 from m ((c : Thread nD τ).loc main_arg5)) (ix1 j) := by
  have h := idx_params t
  have e : (show FVec Ideal S1x256 .f32 from iblk m c 4 t) (ix2 i j) = (show FVec Ideal S1x256 .f32 from V m c main_call0_v3) (ix2 i j) := by
    blk_ext [iblk, h]
  refine e.trans ?_
  entry_read
  pointwise []
  blk_ext []

/-- The feature weight, transposed. -/
theorem rd_5 (t : Fin cfg0.N) (i : Fin 256) (j : Fin 128) :
    (show FVec Ideal S256x128 .f32 from iblk m c 5 t) (ix2 i j) = (show FVec Ideal S128x256 .f32 from m ((c : Thread nD τ).loc main_arg6)) (ix2 j i) := by
  have h := idx_params t
  have e : (show FVec Ideal S256x128 .f32 from iblk m c 5 t) (ix2 i j) = (show FVec Ideal S256x128 .f32 from V m c main_call0_v5) (ix2 i j) := by
    blk_ext [iblk, h]
  refine e.trans ?_
  entry_read
  simp -implicitDefEqProofs only [StableHlo.TRef.toBuf, StableHlo.TRef.ofBuf, cast_cast, cast_eq]
  pointwise []
  blk_ext []

/-- The feature bias, as a row. -/
theorem rd_6 (t : Fin cfg0.N) (i : Fin 1) (j : Fin 128) :
    (show FVec Ideal S1x128 .f32 from iblk m c 6 t) (ix2 i j) = (show FVec Ideal S128 .f32 from m ((c : Thread nD τ).loc main_arg7)) (ix1 j) := by
  have h := idx_params t
  have e : (show FVec Ideal S1x128 .f32 from iblk m c 6 t) (ix2 i j) = (show FVec Ideal S1x128 .f32 from V m c main_call0_v6) (ix2 i j) := by
    blk_ext [iblk, h]
  refine e.trans ?_
  entry_read
  pointwise []
  blk_ext []

/-- The residual weight, transposed. -/
theorem rd_7 (t : Fin cfg0.N) (i : Fin 256) (j : Fin 128) :
    (show FVec Ideal S256x128 .f32 from iblk m c 7 t) (ix2 i j) = (show FVec Ideal S128x256 .f32 from m ((c : Thread nD τ).loc main_arg8)) (ix2 j i) := by
  have h := idx_params t
  have e : (show FVec Ideal S256x128 .f32 from iblk m c 7 t) (ix2 i j) = (show FVec Ideal S256x128 .f32 from V m c main_call0_v7) (ix2 i j) := by
    blk_ext [iblk, h]
  refine e.trans ?_
  entry_read
  simp -implicitDefEqProofs only [StableHlo.TRef.toBuf, StableHlo.TRef.ofBuf, cast_cast, cast_eq]
  pointwise []
  blk_ext []

/-- The residual bias, as a row. -/
theorem rd_8 (t : Fin cfg0.N) (i : Fin 1) (j : Fin 128) :
    (show FVec Ideal S1x128 .f32 from iblk m c 8 t) (ix2 i j) = (show FVec Ideal S128 .f32 from m ((c : Thread nD τ).loc main_arg9)) (ix1 j) := by
  have h := idx_params t
  have e : (show FVec Ideal S1x128 .f32 from iblk m c 8 t) (ix2 i j) = (show FVec Ideal S1x128 .f32 from V m c main_call0_v8) (ix2 i j) := by
    blk_ext [iblk, h]
  refine e.trans ?_
  entry_read
  pointwise []
  blk_ext []

/-- The normalisation scale, as a row. -/
theorem rd_9 (t : Fin cfg0.N) (i : Fin 1) (j : Fin 128) :
    (show FVec Ideal S1x128 .f32 from iblk m c 9 t) (ix2 i j) = (show FVec Ideal S128 .f32 from m ((c : Thread nD τ).loc main_arg10)) (ix1 j) := by
  have h := idx_params t
  have e : (show FVec Ideal S1x128 .f32 from iblk m c 9 t) (ix2 i j) = (show FVec Ideal S1x128 .f32 from V m c main_call0_v9) (ix2 i j) := by
    blk_ext [iblk, h]
  refine e.trans ?_
  entry_read
  pointwise []
  blk_ext []

/-- The normalisation shift, as a row. -/
theorem rd_10 (t : Fin cfg0.N) (i : Fin 1) (j : Fin 128) :
    (show FVec Ideal S1x128 .f32 from iblk m c 10 t) (ix2 i j) = (show FVec Ideal S128 .f32 from m ((c : Thread nD τ).loc main_arg11)) (ix1 j) := by
  have h := idx_params t
  have e : (show FVec Ideal S1x128 .f32 from iblk m c 10 t) (ix2 i j) = (show FVec Ideal S1x128 .f32 from V m c main_call0_v10) (ix2 i j) := by
    blk_ext [iblk, h]
  refine e.trans ?_
  entry_read
  pointwise []
  blk_ext []

end Cert.KernelIdeal.Fused

end
-- ==== Proof.Payloads.lean ====
module

public import proofs.«01_k».proof.Proof.Gen.KernelIdeal.Skeleton
public import proofs.«01_k».proof.Proof.Gen.KernelIdeal.Frame
public import Idealize.ShloMosaic.Lib.Pipeline.ValueKit

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen

/-! ## The stored values, entry by entry, over the extended reals -/

/-- The hidden layer's entry: the product row, scaled, shifted and cut at zero. -/
theorem pay8_at (x : FVec Ideal S2000x128 .f32) (w : FVec Ideal S128x256 .f32) (s b : FVec Ideal S1x256 .f32) (i : Fin 2000) (h : Fin 256) :
    k0_pay8 (F := Ideal) x w s b (ix2 i h) = max ((∑ k : Fin 128, x (ix2 i k) * w (ix2 k h)) * s (ix2 0 h) + b (ix2 0 h)) 0 := by
  pointwise [k0_pay8]

/-- The residual branch's entry. -/
theorem pay9_at (x : FVec Ideal S2000x128 .f32) (w : FVec Ideal S128x256 .f32) (s b : FVec Ideal S1x256 .f32) (u : FVec Ideal S256x128 .f32) (r : FVec Ideal S1x128 .f32) (i : Fin 2000) (j : Fin 128) :
    k0_pay1 (F := Ideal) (k0_pay9 (F := Ideal) x w s b u r) (ix2 i j) = (∑ h : Fin 256, k0_pay8 (F := Ideal) x w s b (ix2 i h) * u (ix2 h j)) + r (ix2 0 j) := by
  unfold k0_pay9
  generalize k0_pay8 (F := Ideal) x w s b = z
  pointwise [k0_pay1]

/-- A block's part of the hyperedge sum. -/
theorem pay2_at (hb : FVec Ideal S2000x512 .bf16) (z : FVec Ideal S2000x256 .bf16) (u : FVec Ideal S256x128 .f32) (r : FVec Ideal S1x128 .f32) (e : Fin 512) (j : Fin 128) :
    k0_pay2 (F := Ideal) hb z u r (ix2 e j) = ∑ i : Fin 2000, hb (ix2 i e) * ((∑ h : Fin 256, z (ix2 i h) * u (ix2 h j)) + r (ix2 0 j)) := by
  pointwise [k0_pay2]

/-- The code of an entry. -/
theorem pay7_at (v : FVec Ideal S2000x512 .f32) (i : Fin 2000) (e : Fin 512) :
    k0_pay7 (F := Ideal) v (ix2 i e) = FloatOps.fptosi (F := Ideal) (φ := .f32) 8 (v (ix2 i e) * Ideal.ofBits .f32 0x437F0000#32 - Ideal.ofBits .f32 0x42FF0000#32) := by
  pointwise [k0_pay7]

/-- The first block's sum is its part. -/
theorem pay3_at (hb : FVec Ideal S2000x512 .bf16) (z : FVec Ideal S2000x256 .bf16) (u : FVec Ideal S256x128 .f32) (r : FVec Ideal S1x128 .f32) (j : S512x128.Idx) :
    k0_pay3 (F := Ideal) hb z u r j = k0_pay2 (F := Ideal) hb z u r j := by
  unfold k0_pay3
  generalize k0_pay2 (F := Ideal) hb z u r = p
  pointwise []

/-- A later block's part is added to the sum so far. -/
theorem pay4_at (hb : FVec Ideal S2000x512 .bf16) (z : FVec Ideal S2000x256 .bf16) (u : FVec Ideal S256x128 .f32) (r : FVec Ideal S1x128 .f32) (acc : FVec Ideal S512x128 .f32) (j : S512x128.Idx) :
    k0_pay4 (F := Ideal) hb z u r acc j = acc j + k0_pay2 (F := Ideal) hb z u r j := by
  unfold k0_pay4
  generalize k0_pay2 (F := Ideal) hb z u r = p
  pointwise []

/-- The narrowing of `H` changes nothing. -/
theorem pay6_at (v : FVec Ideal S2000x512 .f32) (i : Fin 2000) (e : Fin 512) : k0_pay6 (F := Ideal) v (ix2 i e) = v (ix2 i e) := by
  pointwise [k0_pay6]

/-- The convolution entry plus the residual entry: the code product scaled, and half the column sum. -/
def mixed (he : FVec Ideal S512x128 .f32) (q : IVec S2000x512 8) (r : FVec Ideal S2000x128 .bf16) (i : Fin 2000) (j : Fin 128) : EReal :=
  (∑ e : Fin 512, (FloatOps.sitofp (F := Ideal) FTy.bf16 (q (ix2 i e)) : EReal) * he (ix2 e j)) * (Named.named (F := Ideal) (φ := .f32) κ "inv_255" 0x3B808081#32 : EReal)
    + Ideal.ofBits .f32 0x3F000000#32 * ∑ e : Fin 512, he (ix2 e j) + r (ix2 i j)

/-- The output entry: the row normalised, scaled, shifted and cut at zero. -/
theorem pay10_at (he : FVec Ideal S512x128 .f32) (q : IVec S2000x512 8) (r : FVec Ideal S2000x128 .bf16) (w b : FVec Ideal S1x128 .f32) (i : Fin 2000) (j : Fin 128) :
    k0_pay5 (F := Ideal) (k0_pay10 (F := Ideal) he q r w) b (ix2 i j)
      = max ((mixed he q r i j - Ideal.div (∑ x, mixed he q r i x) (Ideal.ofBits .f32 0x43000000#32))
          * Ideal.rsqrt (Ideal.div (∑ x, (mixed he q r i x - Ideal.div (∑ x, mixed he q r i x) (Ideal.ofBits .f32 0x43000000#32))
              * (mixed he q r i x - Ideal.div (∑ x, mixed he q r i x) (Ideal.ofBits .f32 0x43000000#32))) (Ideal.ofBits .f32 0x43000000#32)
            + Ideal.ofBits .f32 0x3727C5AC#32)
          * w (ix2 0 j) + b (ix2 0 j)) 0 := by
  pointwise [k0_pay5, k0_pay10, mixed]

end Cert.KernelIdeal.Fused

end
-- ==== Proof.Layer.lean ====
module

public import Idealize.ShloMosaic.Lib.Pipeline.ValueKit

@[expose] public section

noncomputable section

namespace Cert.Rows

open Idealize.ShloMosaic

/-! ## The layer over the extended reals -/

/-- The layer's inputs: extended reals, the first bias and its scale real. -/
structure Net where
  X : Fin 50000 → Fin 128 → EReal
  H : Fin 50000 → Fin 512 → EReal
  W1 : Fin 256 → Fin 128 → EReal
  b1 : Fin 256 → ℝ
  s : Fin 256 → ℝ
  b : Fin 256 → EReal
  Wc : Fin 128 → Fin 256 → EReal
  bc : Fin 128 → EReal
  Wr : Fin 128 → Fin 256 → EReal
  br : Fin 128 → EReal

/-- The value that is coded: scaled and shifted. -/
def scaled (h : EReal) : EReal := h * ((255 : ℝ) : EReal) - ((127.5 : ℝ) : EReal)

/-- The 8-bit code of a value: scaled, shifted, rounded toward zero and clipped. -/
def code (h : EReal) : ℤ := Ideal.toIntClamped (-128) 127 (scaled h)

/-- The small constant under the normalisation's root. -/
def eps : ℝ := 10995116 / 2 ^ 40

theorem eps_pos : 0 < eps := by unfold eps; positivity

/-- The mean of a row. -/
def mean (y : Fin 128 → EReal) : EReal := Ideal.div (∑ j, y j) ((128 : ℝ) : EReal)

/-- The variance of a row. -/
def var (y : Fin 128 → EReal) : EReal := Ideal.div (∑ j, (y j - mean y) * (y j - mean y)) ((128 : ℝ) : EReal)

/-- The normalised row. -/
def normed (y : Fin 128 → EReal) (j : Fin 128) : EReal := Ideal.div (y j - mean y) (Ideal.sqrt (var y + ((eps : ℝ) : EReal)))

namespace Net
variable (P : Net)

/-- The hidden layer. -/
def hid (r : Fin 50000) (h : Fin 256) : EReal := max (((∑ k, P.X r k * P.W1 h k) + (P.b1 h : EReal)) * (P.s h : EReal) + P.b h) 0

/-- The node features sent to the hyperedges. -/
def feat (r : Fin 50000) (j : Fin 128) : EReal := (∑ h, P.hid r h * P.Wc j h) + P.bc j

/-- The hyperedge features. -/
def edge (e : Fin 512) (j : Fin 128) : EReal := ∑ r, P.H r e * P.feat r j

/-- The incidence as the 8-bit code reads back. -/
def back (r : Fin 50000) (e : Fin 512) : ℝ := ((code (P.H r e) : ℝ) + 127.5) / 255

/-- The convolution. -/
def conv (r : Fin 50000) (j : Fin 128) : EReal := ∑ e, (P.back r e : EReal) * P.edge e j

/-- The convolution with the code's shift and scale taken out of the sum. -/
def convSplit (r : Fin 50000) (j : Fin 128) : EReal :=
  (∑ e, ((code (P.H r e) : ℝ) : EReal) * P.edge e j) * ((1 / 255 : ℝ) : EReal) + ((1 / 2 : ℝ) : EReal) * ∑ e, P.edge e j

/-- The residual branch. -/
def resid (r : Fin 50000) (j : Fin 128) : EReal := (∑ h, P.hid r h * P.Wr j h) + P.br j

/-- The row that is normalised. -/
def row (r : Fin 50000) (j : Fin 128) : EReal := P.conv r j + P.resid r j

/-- The row from the split convolution. -/
def rowSplit (r : Fin 50000) (j : Fin 128) : EReal := P.convSplit r j + P.resid r j

/-- The hyperedge features as a sum over 25 blocks of 2000 rows. -/
theorem edge_blocks (e : Fin 512) (j : Fin 128) :
    ∑ k : Fin 25, ∑ i : Fin 2000, P.H ⟨k.val * 2000 + i.val, by omega⟩ e * P.feat ⟨k.val * 2000 + i.val, by omega⟩ j = P.edge e j := by
  unfold edge
  exact Fin.sum_mul_add_congr fun s k hl => rfl

end Net

/-! ## Real numbers among the extended reals -/

/-- A finite sum of reals, read among the extended reals. -/
theorem coe_sum {ι : Type} (t : Finset ι) (f : ι → ℝ) : ((∑ i ∈ t, f i : ℝ) : EReal) = ∑ i ∈ t, (f i : EReal) := by
  classical
  induction t using Finset.induction with
  | empty => simp
  | insert a t ha ih => rw [Finset.sum_insert ha, Finset.sum_insert ha, EReal.coe_add, ih]

/-- The larger of two reals, read among the extended reals. -/
theorem coe_max (x y : ℝ) : ((max x y : ℝ) : EReal) = max (x : EReal) (y : EReal) := EReal.coe_strictMono.monotone.map_max

/-- The smaller of two reals, read among the extended reals. -/
theorem coe_min (x y : ℝ) : ((min x y : ℝ) : EReal) = min (x : EReal) (y : EReal) := EReal.coe_strictMono.monotone.map_min

/-- Division by a nonzero real. -/
theorem coe_div (x y : ℝ) (h : y ≠ 0) : Ideal.div (x : EReal) (y : EReal) = ((x / y : ℝ) : EReal) := by
  rw [Ideal.div_coe h, ← EReal.coe_mul]; congr 1; ring

/-- A real bias under a real scale may be moved past the scale, whatever it is added to. -/
theorem fold (z c : EReal) (b s : ℝ) : z * (s : EReal) + ((b : EReal) * (s : EReal) + c) = (z + (b : EReal)) * (s : EReal) + c := by
  rw [← add_assoc]
  congr 1
  rw [← EReal.coe_mul]
  rcases lt_trichotomy s 0 with hs | rfl | hs
  · induction z with
    | bot => rw [EReal.bot_add, EReal.bot_mul_coe_of_neg hs, EReal.top_add_coe]
    | top => rw [EReal.top_add_coe, EReal.top_mul_coe_of_neg hs, EReal.bot_add]
    | coe x => rw [← EReal.coe_mul, ← EReal.coe_add, ← EReal.coe_add, ← EReal.coe_mul, add_mul]
  · simp
  · induction z with
    | bot => rw [EReal.bot_add, EReal.bot_mul_coe_of_pos hs, EReal.bot_add]
    | top => rw [EReal.top_add_coe, EReal.top_mul_coe_of_pos hs, EReal.top_add_coe]
    | coe x => rw [← EReal.coe_mul, ← EReal.coe_add, ← EReal.coe_add, ← EReal.coe_mul, add_mul]

/-- The hidden layer with the first bias folded into the second. -/
theorem Net.hid_fold (P : Net) (r : Fin 50000) (h : Fin 256) :
    max ((∑ k, P.X r k * P.W1 h k) * (P.s h : EReal) + ((P.b1 h : EReal) * (P.s h : EReal) + P.b h)) 0 = P.hid r h := by
  unfold hid; rw [fold]

/-! ## Infinite values -/

/-- An infinite value. -/
def Infinite (x : EReal) : Prop := x = ⊤ ∨ x = ⊥

/-- Equal, or both infinite. -/
def Alike (x y : EReal) : Prop := x = y ∨ (Infinite x ∧ Infinite y)

/-- A value that is not infinite is a real number. -/
theorem real_of_not {x : EReal} (h : ¬ Infinite x) : x = ((x.toReal : ℝ) : EReal) :=
  (EReal.coe_toReal (fun e => h (.inl e)) (fun e => h (.inr e))).symm

/-- A sum with an infinite part is infinite. -/
theorem Infinite.add {x : EReal} (h : Infinite x) (y : EReal) : Infinite (x + y) := by
  rcases h with rfl | rfl
  · by_cases hy : y = ⊥
    · exact .inr (by rw [hy, EReal.add_bot])
    · exact .inl (EReal.top_add_of_ne_bot hy)
  · exact .inr (EReal.bot_add y)

/-- The same, with the infinite part on the right. -/
theorem Infinite.add_right {y : EReal} (h : Infinite y) (x : EReal) : Infinite (x + y) := add_comm y x ▸ h.add x

/-- The negative of an infinite value is infinite. -/
theorem Infinite.neg {x : EReal} (h : Infinite x) : Infinite (-x) := by
  rcases h with rfl | rfl
  · exact .inr EReal.neg_top
  · exact .inl EReal.neg_bot

/-- A nonzero real multiple of an infinite value is infinite. -/
theorem Infinite.coe_mul {x : EReal} (h : Infinite x) {c : ℝ} (hc : c ≠ 0) : Infinite ((c : EReal) * x) := by
  rcases lt_or_gt_of_ne hc with hc | hc <;> rcases h with rfl | rfl
  · exact .inr (EReal.coe_mul_top_of_neg hc)
  · exact .inl (EReal.coe_mul_bot_of_neg hc)
  · exact .inl (EReal.coe_mul_top_of_pos hc)
  · exact .inr (EReal.coe_mul_bot_of_pos hc)

/-- A finite sum with an infinite term is infinite. -/
theorem Infinite.sum {ι : Type} [Fintype ι] (f : ι → EReal) (i : ι) (h : Infinite (f i)) : Infinite (∑ i, f i) := by
  classical
  rw [← Finset.add_sum_erase _ f (Finset.mem_univ i)]
  exact h.add _

/-- The square of an infinite value. -/
theorem Infinite.sq {x : EReal} (h : Infinite x) : x * x = ⊤ := by
  rcases h with rfl | rfl
  · exact EReal.top_mul_top
  · exact EReal.bot_mul_bot

/-- A square is not negative. -/
theorem sq_nonneg (x : EReal) : 0 ≤ x * x := by
  by_cases h : Infinite x
  · rw [h.sq]; exact le_top
  · rw [real_of_not h, ← EReal.coe_mul]
    exact_mod_cast mul_self_nonneg _

/-- Adding the same on both sides keeps two values alike. -/
theorem Alike.add {x y : EReal} (h : Alike x y) (z : EReal) : Alike (x + z) (y + z) := by
  rcases h with rfl | ⟨hx, hy⟩
  · exact .inl rfl
  · exact .inr ⟨hx.add z, hy.add z⟩

namespace Net
variable (P : Net)

/-- What a code reads back as is not zero: the codes are whole, the shift is half-way between two of them. -/
theorem back_ne (r : Fin 50000) (e : Fin 512) : P.back r e ≠ 0 := by
  unfold back
  generalize code (P.H r e) = n
  refine div_ne_zero ?_ (by norm_num)
  intro h
  have h2 : ((2 * n + 255 : ℤ) : ℝ) = 0 := by push_cast; linarith
  have h3 : 2 * n + 255 = 0 := by exact_mod_cast h2
  omega

/-- The two forms of the convolution agree where the hyperedge features are real, and are both infinite elsewhere. -/
theorem conv_alike (r : Fin 50000) (j : Fin 128) : Alike (P.convSplit r j) (P.conv r j) := by
  unfold convSplit conv
  by_cases h : ∃ e, Infinite (P.edge e j)
  · obtain ⟨e, he⟩ := h
    refine .inr ⟨Infinite.add_right (Infinite.coe_mul (Infinite.sum (fun e => P.edge e j) e he) (by norm_num)) _, Infinite.sum (fun e => (P.back r e : EReal) * P.edge e j) e (he.coe_mul (P.back_ne r e))⟩
  · refine .inl ?_
    obtain ⟨g, hg⟩ : ∃ g : Fin 512 → ℝ, ∀ e, P.edge e j = ((g e : ℝ) : EReal) :=
      ⟨fun e => (P.edge e j).toReal, fun e => real_of_not fun he => h ⟨e, he⟩⟩
    simp only [hg, ← EReal.coe_mul, ← coe_sum, ← EReal.coe_add]
    congr 1
    unfold back
    rw [Finset.sum_mul, Finset.mul_sum, ← Finset.sum_add_distrib]
    exact Finset.sum_congr rfl fun e _ => by ring

/-- The same of the rows. -/
theorem row_alike (r : Fin 50000) (j : Fin 128) : Alike (P.rowSplit r j) (P.row r j) := (P.conv_alike r j).add _

end Net

/-! ## The constants -/

theorem c255 : Ideal.ofBits .f32 0x437F0000#32 = ((255 : ℝ) : EReal) := by simp [Ideal.ofBits, Ideal.ieee, -EReal.coe_mul]; norm_num
theorem c127h : Ideal.ofBits .f32 0x42FF0000#32 = ((127.5 : ℝ) : EReal) := by simp [Ideal.ofBits, Ideal.ieee, -EReal.coe_mul]; norm_num
theorem c128 : Ideal.ofBits .f32 0x43000000#32 = ((128 : ℝ) : EReal) := by simp [Ideal.ofBits, Ideal.ieee, -EReal.coe_mul]; norm_num
theorem c127 : Ideal.ofBits .f32 0x42FE0000#32 = ((127 : ℝ) : EReal) := by simp [Ideal.ofBits, Ideal.ieee, -EReal.coe_mul]; norm_num
theorem cm128 : Ideal.ofBits .f32 0xC3000000#32 = ((-128 : ℝ) : EReal) := by simp [Ideal.ofBits, Ideal.ieee, -EReal.coe_mul]; norm_num
theorem chalf : Ideal.ofBits .f32 0x3F000000#32 = ((1 / 2 : ℝ) : EReal) := by simp [Ideal.ofBits, Ideal.ieee, -EReal.coe_mul]; norm_num
theorem ceps : Ideal.ofBits .f32 0x3727C5AC#32 = ((eps : ℝ) : EReal) := by unfold eps; simp [Ideal.ofBits, Ideal.ieee, -EReal.coe_mul]; norm_num
theorem czero : Ideal.ofBits .f32 0x00000000#32 = ((0 : ℝ) : EReal) := by simp
theorem cinf : Ideal.ofBits .f32 0x7F800000#32 = ⊤ := by simp [Ideal.ofBits, Ideal.ieee]

/-! ## The quantiser -/

/-- Rounding toward zero. -/
def trunc (x : ℝ) : ℤ := if 0 ≤ x then ⌊x⌋ else ⌈x⌉

theorem code_lo (h : EReal) : -128 ≤ code h := by
  unfold code
  induction scaled h with
  | bot => rw [Ideal.toIntClamped_bot]
  | top => rw [Ideal.toIntClamped_top]; norm_num
  | coe x => rw [Ideal.toIntClamped_coe]; exact le_max_left _ _

theorem code_hi (h : EReal) : code h ≤ 127 := by
  unfold code
  induction scaled h with
  | bot => rw [Ideal.toIntClamped_bot]; norm_num
  | top => rw [Ideal.toIntClamped_top]
  | coe x => rw [Ideal.toIntClamped_coe]; exact max_le (by norm_num) (min_le_left _ _)

/-- The kernel's code: the 8-bit conversion clips by itself. -/
theorem quant8 (φ : FTy) (h : EReal) :
    FloatOps.sitofp (F := Ideal) φ (FloatOps.fptosi (F := Ideal) (φ := .f32) 8 (h * Ideal.ofBits .f32 0x437F0000#32 - Ideal.ofBits .f32 0x42FF0000#32)) = ((code h : ℝ) : EReal) := by
  rw [c255, c127h]
  change (((BitVec.ofInt 8 (code h)).toInt : ℝ) : EReal) = _
  have h1 := code_lo h
  have h2 := code_hi h
  rw [BitVec.toInt_ofInt, Int.bmod_eq_of_le (by norm_num; omega) (by norm_num; omega)]

/-- Rounding toward zero is monotone. -/
theorem trunc_mono : Monotone trunc := by
  intro x y h
  unfold trunc
  split
  · rename_i hx
    rw [if_pos (hx.trans h)]
    exact Int.floor_mono h
  · rename_i hx
    split
    · rename_i hy
      exact (Int.ceil_le.mpr (by push_cast; exact (not_le.mp hx).le)).trans (Int.floor_nonneg.mpr hy)
    · exact Int.ceil_mono h

/-- Rounding toward zero commutes with clipping between integers. -/
theorem trunc_clip (x : ℝ) : trunc (min 127 (max (-128) x)) = max (-128) (min 127 (trunc x)) := by
  rw [trunc_mono.map_min, trunc_mono.map_max]
  have h1 : trunc 127 = 127 := by unfold trunc; norm_num
  have h2 : trunc (-128) = -128 := by unfold trunc; norm_num
  rw [h1, h2]
  omega

/-- Clipping and then converting at 32 bits is converting at the clip's bounds. -/
theorem clip_convert (x : EReal) :
    Ideal.toIntClamped (-2147483648) 2147483647 (min ((127 : ℝ) : EReal) (max ((-128 : ℝ) : EReal) x)) = Ideal.toIntClamped (-128) 127 x := by
  have h1 : trunc 127 = 127 := by unfold trunc; norm_num
  have h2 : trunc (-128) = -128 := by unfold trunc; norm_num
  have h3 (y : ℝ) : Ideal.toIntClamped (-2147483648) 2147483647 (y : EReal) = max (-2147483648) (min 2147483647 (trunc y)) := rfl
  induction x with
  | bot =>
    rw [max_eq_left bot_le, ← coe_min, h3, Ideal.toIntClamped_bot, min_eq_right (by norm_num : (-128 : ℝ) ≤ 127), h2]; norm_num
  | top => rw [max_eq_right le_top, min_eq_left le_top, h3, Ideal.toIntClamped_top, h1]; norm_num
  | coe y =>
    rw [← coe_max, ← coe_min, h3, trunc_clip]
    change _ = max (-128) (min 127 (trunc y))
    omega

/-- The reference's code: the scaled value is clipped, then converted at 32 bits. -/
theorem quant32 (φ : FTy) (h : EReal) :
    FloatOps.sitofp (F := Ideal) φ (FloatOps.fptosi (F := Ideal) (φ := .f32) 32 (min (Ideal.ofBits .f32 0x42FE0000#32) (max (Ideal.ofBits .f32 0xC3000000#32)
      (h * Ideal.ofBits .f32 0x437F0000#32 - Ideal.ofBits .f32 0x42FF0000#32)))) = ((code h : ℝ) : EReal) := by
  rw [c255, c127h, c127, cm128]
  change (((BitVec.ofInt 32 (Ideal.toIntClamped (-2147483648) 2147483647 (min ((127 : ℝ) : EReal) (max ((-128 : ℝ) : EReal) (scaled h))))).toInt : ℝ) : EReal) = _
  rw [clip_convert]
  change (((BitVec.ofInt 32 (code h)).toInt : ℝ) : EReal) = _
  have h1 := code_lo h
  have h2 := code_hi h
  rw [BitVec.toInt_ofInt, Int.bmod_eq_of_le (by norm_num; omega) (by norm_num; omega)]

/-! ## The normalisation -/

/-- Division by 128 keeps a value that is not negative so. -/
theorem div_nonneg {x : EReal} (h : 0 ≤ x) : 0 ≤ Ideal.div x ((128 : ℝ) : EReal) := by
  rw [Ideal.div_coe (by norm_num)]
  exact mul_nonneg h (by exact_mod_cast (by norm_num : (0 : ℝ) ≤ 1 / 128))

/-- The variance is not negative. -/
theorem var_nonneg (y : Fin 128 → EReal) : 0 ≤ var y := div_nonneg (Finset.sum_nonneg fun j _ => sq_nonneg _)

/-- A product with the reciprocal root is the quotient by the root, at every positive value and at infinity. -/
theorem by_rroot_of (x : EReal) {v : EReal} (hv : 0 ≤ v) :
    x * Ideal.rsqrt (v + ((eps : ℝ) : EReal)) = Ideal.div x (Ideal.sqrt (v + ((eps : ℝ) : EReal))) := by
  induction v with
  | bot => exact absurd hv (by simp)
  | top => rw [EReal.top_add_coe, Ideal.rsqrt_top, Ideal.sqrt_top, Ideal.div, if_neg (by simp), EReal.inv_top]
  | coe u =>
    have hu : 0 < u + eps := add_pos_of_nonneg_of_pos (by exact_mod_cast hv) eps_pos
    rw [← EReal.coe_add, Ideal.rsqrt_coe, if_neg (not_lt.mpr hu.le), if_neg hu.ne', Ideal.sqrt_coe, if_neg (not_lt.mpr hu.le),
      Ideal.div_coe (Real.sqrt_pos.mpr hu).ne', one_div]

/-- The kernel's normalised entry: a product with the reciprocal root. -/
theorem by_rroot (y : Fin 128 → EReal) (j : Fin 128) :
    (y j - mean y) * Ideal.rsqrt (var y + ((eps : ℝ) : EReal)) = normed y j := by_rroot_of _ (var_nonneg y)

/-- The mean of a row with an infinite entry is infinite. -/
theorem mean_infinite (y : Fin 128 → EReal) (i : Fin 128) (h : Infinite (y i)) : Infinite (mean y) := by
  unfold mean
  rw [Ideal.div_coe (by norm_num), mul_comm]
  exact (Infinite.sum y i h).coe_mul (by norm_num)

/-- The variance of a row with an infinite entry is infinite. -/
theorem var_top (y : Fin 128 → EReal) (i : Fin 128) (h : Infinite (y i)) : var y = ⊤ := by
  have hs (j : Fin 128) : (y j - mean y) * (y j - mean y) = ⊤ := by
    rw [sub_eq_add_neg]
    exact ((mean_infinite y i h).neg.add_right (y j)).sq
  have ht : ∑ j, (y j - mean y) * (y j - mean y) = ⊤ := by
    rw [← Finset.add_sum_erase _ _ (Finset.mem_univ i), hs i]
    refine EReal.top_add_of_ne_bot fun hb => ?_
    have h0 : 0 ≤ ∑ j ∈ Finset.univ.erase i, (y j - mean y) * (y j - mean y) := Finset.sum_nonneg fun j _ => sq_nonneg _
    rw [hb] at h0
    simp at h0
  unfold var
  rw [ht, Ideal.div_coe (by norm_num), EReal.top_mul_coe_of_pos (by norm_num)]

/-- A row with an infinite entry is normalised to zero. -/
theorem normed_infinite (y : Fin 128 → EReal) (i : Fin 128) (h : Infinite (y i)) (j : Fin 128) : normed y j = 0 := by
  unfold normed
  rw [var_top y i h, EReal.top_add_coe, Ideal.sqrt_top, Ideal.div, if_neg (by simp), EReal.inv_top, mul_zero]

/-- Rows that are alike entry by entry have the same normalised row. -/
theorem normed_alike (x y : Fin 128 → EReal) (h : ∀ j, Alike (x j) (y j)) (j : Fin 128) : normed x j = normed y j := by
  by_cases hi : ∃ i, Infinite (x i) ∧ Infinite (y i)
  · obtain ⟨i, hx, hy⟩ := hi
    rw [normed_infinite x i hx, normed_infinite y i hy]
  · rw [show x = y from funext fun i => (h i).resolve_right fun hn => hi ⟨i, hn⟩]

end Cert.Rows

end
-- ==== Proof.Values.lean ====
module

public import proofs.«01_k».proof.Proof.Reads
public import proofs.«01_k».proof.Proof.Payloads
public import proofs.«01_k».proof.Proof.Layer

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.Rows Cert.KernelIdeal Cert.KernelIdeal.Gen

/-- The arrays hold the inputs of `P`. -/
structure Holds (P : Net) (x0 : FVec Ideal S50000x128 .f32) (x1 : FVec Ideal S50000x512 .f32) (x2 : FVec Ideal S256x128 .f32)
    (x3 x4 x5 : FVec Ideal S256 .f32) (x6 : FVec Ideal S128x256 .f32) (x7 : FVec Ideal S128 .f32) (x8 : FVec Ideal S128x256 .f32)
    (x9 : FVec Ideal S128 .f32) : Prop where
  X : ∀ r k, x0 (ix2 r k) = P.X r k
  H : ∀ r e, x1 (ix2 r e) = P.H r e
  W1 : ∀ h k, x2 (ix2 h k) = P.W1 h k
  b1 : ∀ h, x3 (ix1 h) = ((P.b1 h : ℝ) : EReal)
  s : ∀ h, x4 (ix1 h) = ((P.s h : ℝ) : EReal)
  b : ∀ h, x5 (ix1 h) = P.b h
  Wc : ∀ j h, x6 (ix2 j h) = P.Wc j h
  bc : ∀ j, x7 (ix1 j) = P.bc j
  Wr : ∀ j h, x8 (ix2 j h) = P.Wr j h
  br : ∀ j, x9 (ix1 j) = P.br j

/-- The result both programs reach: the normalised row scaled, shifted and cut at zero. -/
def result (P : Net) (w b : FVec Ideal S128 .f32) : FVec Ideal S50000x128 .f32 :=
  fun i => max (normed (P.row (i 0)) (i 1) * w (ix1 (i 1)) + b (ix1 (i 1))) 0

/-! ## The stored values in the layer's terms -/

section
variable (P : Net)

/-- The hidden layer's block. -/
theorem hid_block (x : FVec Ideal S2000x128 .f32) (w : FVec Ideal S128x256 .f32) (s b : FVec Ideal S1x256 .f32) (i : Fin 2000) (r : Fin 50000)
    (hx : ∀ k, x (ix2 i k) = P.X r k) (hw : ∀ k h, w (ix2 k h) = P.W1 h k)
    (hs : ∀ h, s (ix2 0 h) = ((P.s h : ℝ) : EReal)) (hb : ∀ h, b (ix2 0 h) = (P.b1 h : EReal) * (P.s h : EReal) + P.b h) (h : Fin 256) :
    k0_pay8 (F := Ideal) x w s b (ix2 i h) = P.hid r h := by
  rw [pay8_at, ← P.hid_fold]
  simp only [hx, hw, hs, hb]

/-- The residual branch's block. -/
theorem res_block (x : FVec Ideal S2000x128 .f32) (w : FVec Ideal S128x256 .f32) (s b : FVec Ideal S1x256 .f32) (u : FVec Ideal S256x128 .f32)
    (v : FVec Ideal S1x128 .f32) (i : Fin 2000) (r : Fin 50000) (hh : ∀ h, k0_pay8 (F := Ideal) x w s b (ix2 i h) = P.hid r h)
    (hu : ∀ h j, u (ix2 h j) = P.Wr j h) (hv : ∀ j, v (ix2 0 j) = P.br j) (j : Fin 128) :
    k0_pay1 (F := Ideal) (k0_pay9 (F := Ideal) x w s b u v) (ix2 i j) = P.resid r j := by
  rw [pay9_at]
  unfold Net.resid
  simp only [hh, hu, hv]

/-- A block's part of the hyperedge features. -/
theorem part_block (hb : FVec Ideal S2000x512 .f32) (z : FVec Ideal S2000x256 .bf16) (u : FVec Ideal S256x128 .f32) (v : FVec Ideal S1x128 .f32)
    (ro : Fin 2000 → Fin 50000) (hH : ∀ i e, hb (ix2 i e) = P.H (ro i) e) (hz : ∀ i h, z (ix2 i h) = P.hid (ro i) h)
    (hu : ∀ h j, u (ix2 h j) = P.Wc j h) (hv : ∀ j, v (ix2 0 j) = P.bc j) (e : Fin 512) (j : Fin 128) :
    k0_pay2 (F := Ideal) (k0_pay6 (F := Ideal) hb) z u v (ix2 e j) = ∑ i, P.H (ro i) e * P.feat (ro i) j := by
  rw [pay2_at]
  unfold Net.feat
  simp only [pay6_at, hH, hz, hu, hv]

/-- The value of the named reciprocal. -/
theorem inv255 : (Named.named (F := Ideal) (φ := .f32) κ "inv_255" 0x3B808081#32 : EReal) = ((1 / 255 : ℝ) : EReal) :=
  IdealRules.named_const.ideal_named_scalar _ _ _ _ rfl

/-- The row before the normalisation, its convolution split. -/
theorem mixed_block (he : FVec Ideal S512x128 .f32) (q : IVec S2000x512 8) (v : FVec Ideal S2000x128 .bf16) (i : Fin 2000) (r : Fin 50000)
    (hhe : ∀ e j, he (ix2 e j) = P.edge e j)
    (hq : ∀ e, (FloatOps.sitofp (F := Ideal) FTy.bf16 (q (ix2 i e)) : EReal) = ((code (P.H r e) : ℝ) : EReal))
    (hv : ∀ j, v (ix2 i j) = P.resid r j) (j : Fin 128) :
    mixed he q v i j = P.rowSplit r j := by
  unfold mixed Net.rowSplit Net.convSplit
  rw [inv255, chalf]
  simp only [hhe, hq, hv]

/-- The output block. -/
theorem out_block (he : FVec Ideal S512x128 .f32) (q : IVec S2000x512 8) (v : FVec Ideal S2000x128 .bf16) (w b : FVec Ideal S1x128 .f32)
    (lw lb : FVec Ideal S128 .f32) (i : Fin 2000) (r : Fin 50000) (hm : ∀ j, mixed he q v i j = P.rowSplit r j)
    (hw : ∀ j, w (ix2 0 j) = lw (ix1 j)) (hb : ∀ j, b (ix2 0 j) = lb (ix1 j)) (j : Fin 128) :
    k0_pay5 (F := Ideal) (k0_pay10 (F := Ideal) he q v w) b (ix2 i j)
      = max (normed (P.row r) j * lw (ix1 j) + lb (ix1 j)) 0 := by
  rw [pay10_at]
  simp only [hm, hw, hb]
  rw [c128, ceps]
  refine congrArg (fun v : EReal => max (v * lw (ix1 j) + lb (ix1 j)) 0) ?_
  exact (by_rroot (P.rowSplit r) j).trans (normed_alike _ _ (P.row_alike r) j)

end

/-! ## The launch -/

variable (m : (ℓ : Loc nD τ sig) → Buf (Elt Ideal) ℓ) (c : Dev nD) (P : Net)

/-- The launch's arrays hold the inputs of `P`. -/
abbrev HoldsAt : Prop := Holds P (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

variable {m c P}

/-- The hidden layer of the `k`-th block. -/
theorem hid_at (N : HoldsAt m c P) (k : Fin 25) (i : Fin 2000) (h : Fin 256) :
    k0_pay8 (F := Ideal) (iblk m c 0 (pt k.val)) (iblk m c 2 (pt k.val)) (iblk m c 3 (pt k.val)) (iblk m c 4 (pt k.val)) (ix2 i h) = P.hid (rowOf k i) h :=
  hid_block P _ _ _ _ i (rowOf k i) (fun k' => (rd_0 m c k i k').trans (N.X _ _)) (fun k' h => (rd_2 m c _ k' h).trans (N.W1 _ _))
    (fun h => (rd_3 m c _ 0 h).trans (N.s _))
    (fun h => (rd_4 m c _ 0 h).trans
      (congrArg₂ (fun a b : EReal => a + b) (congrArg₂ (fun a b : EReal => a * b) (N.b1 h) (N.s h)) (N.b h))) h

/-- The residual branch of the `k`-th block. -/
theorem res_at (N : HoldsAt m c P) (k : Fin 25) (i : Fin 2000) (j : Fin 128) :
    (show FVec Ideal S2000x128 .bf16 from resAt m c k.val) (ix2 i j) = P.resid (rowOf k i) j :=
  res_block P _ _ _ _ _ _ i (rowOf k i) (hid_at N k i) (fun h j => (rd_7 m c _ h j).trans (N.Wr _ _)) (fun j => (rd_8 m c _ 0 j).trans (N.br _)) j

/-- The codes of the `k`-th block. -/
theorem code_at (N : HoldsAt m c P) (k : Fin 25) (i : Fin 2000) (e : Fin 512) :
    (FloatOps.sitofp (F := Ideal) FTy.bf16 ((show IVec S2000x512 8 from codesAt m c k.val) (ix2 i e)) : EReal) = ((code (P.H (rowOf k i) e) : ℝ) : EReal) := by
  have h : (show FVec Ideal S2000x512 .f32 from iblk m c 1 (pt k.val)) (ix2 i e) = P.H (rowOf k i) e := (rd_1 m c k i e).trans (N.H _ _)
  refine Eq.trans (congrArg (fun b => (FloatOps.sitofp (F := Ideal) FTy.bf16 b : EReal)) (pay7_at (iblk m c 1 (pt k.val)) i e)) ?_
  refine Eq.trans ?_ (quant8 .bf16 _)
  exact congrArg (fun v : EReal => (FloatOps.sitofp (F := Ideal) FTy.bf16 (FloatOps.fptosi (F := Ideal) (φ := .f32) 8 (v * Ideal.ofBits .f32 0x437F0000#32 - Ideal.ofBits .f32 0x42FF0000#32)) : EReal)) h

/-- The part of the `k`-th block. -/
theorem part_at (N : HoldsAt m c P) (k : Fin 25) (e : Fin 512) (j : Fin 128) :
    k0_pay2 (F := Ideal) (k0_pay6 (F := Ideal) (iblk m c 1 (pt k.val))) (k0_pay8 (F := Ideal) (iblk m c 0 (pt k.val)) (iblk m c 2 (pt k.val)) (iblk m c 3 (pt k.val)) (iblk m c 4 (pt k.val)))
      (iblk m c 5 (pt k.val)) (iblk m c 6 (pt k.val)) (ix2 e j) = ∑ i, P.H (rowOf k i) e * P.feat (rowOf k i) j :=
  part_block P _ _ _ _ (rowOf k) (fun i e => (rd_1 m c k i e).trans (N.H _ _)) (hid_at N k) (fun h j => (rd_5 m c _ h j).trans (N.Wc _ _))
    (fun j => (rd_6 m c _ 0 j).trans (N.bc _)) e j

/-- The `k`-th block's part as a number, nothing past the last block. -/
def partN (P : Net) (e : Fin 512) (j : Fin 128) (k : ℕ) : EReal :=
  if h : k < 25 then ∑ i, P.H (rowOf ⟨k, h⟩ i) e * P.feat (rowOf ⟨k, h⟩ i) j else 0

/-- The running sum after block `n`. -/
theorem he_at (N : HoldsAt m c P) (e : Fin 512) (j : Fin 128) : ∀ n : ℕ, n < 25 →
    (show FVec Ideal S512x128 .f32 from heAt m c n) (ix2 e j) = ∑ k ∈ Finset.range (n + 1), partN P e j k
  | 0, h => by
      refine (pay3_at _ _ _ _ _).trans ((part_at N ⟨0, h⟩ e j).trans ?_)
      rw [zero_add, Finset.sum_range_one, partN, dif_pos h]
  | n + 1, h => by
      refine (pay4_at _ _ _ _ _ _).trans ?_
      refine (congrArg₂ (fun a b : EReal => a + b) (he_at N e j n (by omega)) (part_at N ⟨n + 1, h⟩ e j)).trans ?_
      rw [Finset.sum_range_succ _ (n + 1), partN.eq_def P e j (n + 1), dif_pos h]

/-- After the first phase the running sum is the hyperedge features. -/
theorem he_full (N : HoldsAt m c P) (e : Fin 512) (j : Fin 128) :
    (show FVec Ideal S512x128 .f32 from heAt m c 24) (ix2 e j) = P.edge e j := by
  refine (he_at N e j 24 (by omega)).trans ?_
  rw [← P.edge_blocks, Finset.sum_range]
  exact Finset.sum_congr rfl fun k _ => by rw [partN, dif_pos k.isLt]

/-- The output block of a point of the second phase. -/
theorem out_at (N : HoldsAt m c P) (t : Fin cfg0.N) (i : Fin 2000) (j : Fin 128) :
    (show FVec Ideal S2000x128 .f32 from outAt m c t) (ix2 i j)
      = result P (m ((c : Thread nD τ).loc main_arg10)) (m ((c : Thread nD τ).loc main_arg11)) (ix2 (rowOf ⟨t.val % 25, Nat.mod_lt _ (by omega)⟩ i) j) :=
  out_block P _ _ _ _ _ (m ((c : Thread nD τ).loc main_arg10)) (m ((c : Thread nD τ).loc main_arg11)) i _
    (mixed_block P _ _ _ i (rowOf ⟨t.val % 25, Nat.mod_lt _ (by omega)⟩ i) (he_full N) (code_at N _ i) (res_at N _ i))
    (fun j => rd_9 m c t 0 j) (fun j => rd_10 m c t 0 j) j

/-- After the launch the output array holds the result. -/
theorem final (N : HoldsAt m c P) : (dats m 0 c).arrAt 11 cfg0.N
    = result P (m ((c : Thread nD τ).loc main_arg10)) (m ((c : Thread nD τ).loc main_arg11)) := by
  refine (dats m 0 c).arrAt_eq_of_covers 11 _ (by decide +kernel) fun t hf y => ?_
  have ht : 25 ≤ t.val := (flush_out t).mp hf
  blk_simp
  rw [after_11]
  refine Eq.trans (congrArg (outAt m c t) (eq_ix2 y)) ((out_at N t (y 0) (y 1)).trans ?_)
  have h := idx_out t ht
  blk_ext [h]

end Cert.KernelIdeal.Fused

end
-- ==== Proof.RefRows.lean ====
module

public import proofs.«01_k».proof.Proof.Values
public import proofs.«01_k».proof.Proof.Gen.ReferenceIdeal.Read

@[expose] public section

set_option maxRecDepth 16384

noncomputable section

namespace Cert.ReferenceIdeal.Rows

open Idealize.ShloMosaic Idealize.ShloMosaic.TcCoe Idealize.ShloMosaic.Tactic
open Cert.ReferenceIdeal Cert.ReferenceIdeal.Gen Cert.ReferenceIdeal.Read Cert.Rows
open Cert.KernelIdeal.Fused (Holds result)

variable (x0 : FVec Ideal S50000x128 .f32) (x1 : FVec Ideal S50000x512 .f32) (x2 : FVec Ideal S256x128 .f32)
    (x3 x4 x5 : FVec Ideal S256 .f32) (x6 : FVec Ideal S128x256 .f32) (x7 : FVec Ideal S128 .f32) (x8 : FVec Ideal S128x256 .f32)
    (x9 x10 x11 : FVec Ideal S128 .f32)

/-! ## The reference's stages, entry by entry -/

/-- The hidden layer. -/
theorem hid_read (r : Fin 50000) (h : Fin 256) :
    val_main_v11 (F := Ideal) x0 x2 x3 x4 x5 (ix2 r h) = max (((∑ k : Fin 128, x0 (ix2 r k) * x2 (ix2 h k)) + x3 (ix1 h)) * x4 (ix1 h) + x5 (ix1 h)) 0 := by
  pointwise [val_main_v11, val_main_v10, val_main_v9, val_main_v8, val_main_v7, val_main_v6, val_main_v5, val_main_v4, val_main_v3, val_main_v2, val_main_v1, val_main_v0, val_main_call0_v0, val_main_call0_cst]

/-- The node features. -/
theorem feat_read (r : Fin 50000) (j : Fin 128) :
    val_main_v16 (F := Ideal) x0 x2 x3 x4 x5 x6 x7 (ix2 r j) = (∑ h : Fin 256, val_main_v11 (F := Ideal) x0 x2 x3 x4 x5 (ix2 r h) * x6 (ix2 j h)) + x7 (ix1 j) := by
  unfold val_main_v16 val_main_v13
  generalize val_main_v11 (F := Ideal) x0 x2 x3 x4 x5 = z
  pointwise [val_main_v12, val_main_v14, val_main_v15]

/-- The hyperedge features. -/
theorem edge_read (e : Fin 512) (j : Fin 128) :
    val_main_v18 (F := Ideal) x0 x1 x2 x3 x4 x5 x6 x7 (ix2 e j) = ∑ r : Fin 50000, x1 (ix2 r e) * val_main_v16 (F := Ideal) x0 x2 x3 x4 x5 x6 x7 (ix2 r j) := by
  unfold val_main_v18
  generalize val_main_v16 (F := Ideal) x0 x2 x3 x4 x5 x6 x7 = z
  pointwise [val_main_v17]

/-- The incidence through its code. -/
theorem back_read (r : Fin 50000) (e : Fin 512) :
    val_main_v29 (F := Ideal) x1 (ix2 r e) = Ideal.div ((FloatOps.sitofp (F := Ideal) .f32 (FloatOps.fptosi (F := Ideal) (φ := .f32) 32
      (min (Ideal.ofBits .f32 0x42FE0000#32) (max (Ideal.ofBits .f32 0xC3000000#32) (x1 (ix2 r e) * Ideal.ofBits .f32 0x437F0000#32 - Ideal.ofBits .f32 0x42FF0000#32)))) : EReal)
        + Ideal.ofBits .f32 0x42FF0000#32) (Ideal.ofBits .f32 0x437F0000#32) := by
  pointwise [val_main_v29, val_main_v28, val_main_v27, val_main_v26, val_main_v25, val_main_v24, val_main_v23, val_main_v22, val_main_v21, val_main_v20, val_main_v19, val_main_cst, val_main_cst_0, val_main_cst_1, val_main_cst_2, val_main_cst_3, val_main_cst_4, val_main_call1_v0, val_main_call1_v1, val_main_call1_v2, val_main_call1_v3, val_main_call1_v4]
  rfl

/-- The row that is normalised. -/
theorem row_read (r : Fin 50000) (j : Fin 128) :
    val_main_v36 (F := Ideal) x0 x1 x2 x3 x4 x5 x6 x7 x8 x9 (ix2 r j) = (∑ e : Fin 512, val_main_v29 (F := Ideal) x1 (ix2 r e) * val_main_v18 (F := Ideal) x0 x1 x2 x3 x4 x5 x6 x7 (ix2 e j)) + ((∑ h : Fin 256, val_main_v11 (F := Ideal) x0 x2 x3 x4 x5 (ix2 r h) * x8 (ix2 j h)) + x9 (ix1 j)) := by
  unfold val_main_v36 val_main_v30 val_main_v35 val_main_v32
  generalize val_main_v11 (F := Ideal) x0 x2 x3 x4 x5 = z
  generalize val_main_v29 (F := Ideal) x1 = q
  generalize val_main_v18 (F := Ideal) x0 x1 x2 x3 x4 x5 x6 x7 = g
  pointwise [val_main_v31, val_main_v33, val_main_v34]

/-- The variance's divisor is 128. -/
theorem divisor (i : S_.Idx) : val_main_call2_v8 (F := Ideal) i = Ideal.ofBits .f32 0x43000000#32 := by
  rw [val_main_call2_v8_apply, val_main_call2_cst_1_apply, val_main_call2_v7_apply, val_main_c_apply]
  show Ideal.ofBits .f32 0x43000000#32 - (((0#32 : BitVec 32).toInt : ℝ) : EReal) = _
  simp

/-- The divisor is positive. -/
theorem guard (i : S_.Idx) : val_main_call2_v13 (F := Ideal) i = 1#1 := by
  rw [val_main_call2_v13_apply, divisor, val_main_call2_cst_3_apply]
  show Ideal.cmp .ogt (Ideal.ofBits .f32 0x43000000#32) (Ideal.ofBits .f32 0x00000000#32) = _
  rw [c128, czero]
  have h : ((0 : ℝ) : EReal) < ((128 : ℝ) : EReal) := by exact_mod_cast (by norm_num : (0 : ℝ) < 128)
  simp only [Ideal.cmp, h, decide_true]
  rfl

/-- The result: the row normalised by the root, scaled, shifted and cut at zero. -/
theorem out_read (r : Fin 50000) (j : Fin 128) (Y : Fin 128 → EReal) (hY : ∀ j, val_main_v36 (F := Ideal) x0 x1 x2 x3 x4 x5 x6 x7 x8 x9 (ix2 r j) = Y j) :
    val_main_v55 (F := Ideal) x0 x1 x2 x3 x4 x5 x6 x7 x8 x9 x10 x11 (ix2 r j)
      = max (Ideal.div (Y j - Ideal.div (∑ x, Y x) (Ideal.ofBits .f32 0x43000000#32))
          (Ideal.sqrt (Ideal.div (∑ x, (Y x - Ideal.div (∑ x, Y x) (Ideal.ofBits .f32 0x43000000#32)) * (Y x - Ideal.div (∑ x, Y x) (Ideal.ofBits .f32 0x43000000#32))) (Ideal.ofBits .f32 0x43000000#32)
            + Ideal.ofBits .f32 0x3727C5AC#32)) * x10 (ix1 j) + x11 (ix1 j)) 0 := by
  unfold val_main_v55 val_main_v54 val_main_v53 val_main_v52 val_main_v51 val_main_v50 val_main_v49 val_main_v48 val_main_v47 val_main_v46 val_main_v45 val_main_v44 val_main_cst_7 val_main_v43 val_main_v42 val_main_v41 val_main_call2_call0_v1 val_main_call2_call0_v0 val_main_call2_cst_4 val_main_call2_v12 val_main_call2_v11 val_main_call2_v10 val_main_call2_v9 val_main_call2_cst_2 val_main_call2_v6 val_main_call2_v5 val_main_call2_v4 val_main_call2_v3 val_main_call2_v2 val_main_call2_cst_0 val_main_call2_v1 val_main_call2_v0 val_main_call2_cst val_main_v40 val_main_v39 val_main_cst_6 val_main_v38 val_main_v37 val_main_cst_5 val_main_call3_v0 val_main_call3_cst
  generalize val_main_v36 (F := Ideal) x0 x1 x2 x3 x4 x5 x6 x7 x8 x9 = y at hY
  have hg := guard ix0
  have hd := divisor ix0
  generalize val_main_call2_v13 (F := Ideal) = g at hg
  generalize val_main_call2_v8 (F := Ideal) = d at hd
  pointwise []
  rw [hg, hd]
  simp only [hY]
  rfl

/-! ## The reference in the layer's terms -/

variable {x0 x1 x2 x3 x4 x5 x6 x7 x8 x9} {P : Net}

/-- The reference's hidden layer is the layer's. -/
theorem hid_ref (N : Holds P x0 x1 x2 x3 x4 x5 x6 x7 x8 x9) (r : Fin 50000) (h : Fin 256) : val_main_v11 (F := Ideal) x0 x2 x3 x4 x5 (ix2 r h) = P.hid r h := by
  refine (hid_read x0 x2 x3 x4 x5 r h).trans ?_
  unfold Net.hid
  simp only [N.X, N.W1, N.b1, N.s, N.b]

/-- So are its node features. -/
theorem feat_ref (N : Holds P x0 x1 x2 x3 x4 x5 x6 x7 x8 x9) (r : Fin 50000) (j : Fin 128) : val_main_v16 (F := Ideal) x0 x2 x3 x4 x5 x6 x7 (ix2 r j) = P.feat r j := by
  refine (feat_read x0 x2 x3 x4 x5 x6 x7 r j).trans ?_
  unfold Net.feat
  simp only [hid_ref N, N.Wc, N.bc]

/-- So are its hyperedge features. -/
theorem edge_ref (N : Holds P x0 x1 x2 x3 x4 x5 x6 x7 x8 x9) (e : Fin 512) (j : Fin 128) : val_main_v18 (F := Ideal) x0 x1 x2 x3 x4 x5 x6 x7 (ix2 e j) = P.edge e j := by
  refine (edge_read x0 x1 x2 x3 x4 x5 x6 x7 e j).trans ?_
  unfold Net.edge
  simp only [feat_ref N, N.H]

/-- So is the incidence through its code. -/
theorem back_ref (N : Holds P x0 x1 x2 x3 x4 x5 x6 x7 x8 x9) (r : Fin 50000) (e : Fin 512) : val_main_v29 (F := Ideal) x1 (ix2 r e) = (P.back r e : EReal) := by
  refine (back_read x1 r e).trans ?_
  rw [N.H, quant32, c127h, c255, ← EReal.coe_add, coe_div _ _ (by norm_num)]
  rfl

/-- So is the row that is normalised. -/
theorem row_ref (N : Holds P x0 x1 x2 x3 x4 x5 x6 x7 x8 x9) (r : Fin 50000) (j : Fin 128) : val_main_v36 (F := Ideal) x0 x1 x2 x3 x4 x5 x6 x7 x8 x9 (ix2 r j) = P.row r j := by
  refine (row_read x0 x1 x2 x3 x4 x5 x6 x7 x8 x9 r j).trans ?_
  unfold Net.row Net.conv Net.resid
  simp only [hid_ref N, edge_ref N, back_ref N, N.Wr, N.br]

/-- The reference's result is the layer's, entry by entry. -/
theorem entry_ref (N : Holds P x0 x1 x2 x3 x4 x5 x6 x7 x8 x9) (r : Fin 50000) (j : Fin 128) : val_main_v55 (F := Ideal) x0 x1 x2 x3 x4 x5 x6 x7 x8 x9 x10 x11 (ix2 r j) = result P x10 x11 (ix2 r j) := by
  refine (out_read x0 x1 x2 x3 x4 x5 x6 x7 x8 x9 x10 x11 r j _ (row_ref N r)).trans ?_
  rw [c128, ceps]
  rfl

/-- The reference's result is the layer's. -/
theorem result_ref (N : Holds P x0 x1 x2 x3 x4 x5 x6 x7 x8 x9) : val_main_v55 (F := Ideal) x0 x1 x2 x3 x4 x5 x6 x7 x8 x9 x10 x11 = result P x10 x11 := by
  funext i
  obtain ⟨r, j, rfl⟩ : ∃ (r : Fin 50000) (j : Fin 128), i = ix2 r j := ⟨i 0, i 1, eq_ix2 (n0 := 50000) (n1 := 128) i⟩
  exact entry_ref x10 x11 N r j

end Cert.ReferenceIdeal.Rows

end
-- ==== Proof.Finite.lean ====
module

public import proofs.«01_k».proof.Proof.Values
public import proofs.«01_k».proof.Proof.Gen.Pre_finite

@[expose] public section

set_option maxRecDepth 16384

noncomputable section

namespace Cert.Pre_finite.Rows

open Idealize.ShloMosaic Idealize.ShloMosaic.TcCoe Idealize.ShloMosaic.Tactic
open Cert.Pre_finite Cert.Pre_finite.Gen Cert.Rows
open Cert.KernelIdeal.Fused (Holds)

/-! ## What the precondition says: the entries of the first bias and of its scale are real numbers -/

/-- An extended real whose absolute value is below infinity is a real number. -/
theorem real_of_abs_lt (x : EReal) (h : Ideal.cmp .olt (max x (-x)) (Ideal.ofBits .f32 0x7F800000#32) = 1#1) : x = ((x.toReal : ℝ) : EReal) := by
  rw [cinf] at h
  have hl : max x (-x) < ⊤ := by
    by_contra hn
    simp only [Ideal.cmp, hn, decide_false] at h
    exact absurd h (by decide)
  refine (EReal.coe_toReal ?_ ?_).symm
  · rintro rfl
    simp at hl
  · rintro rfl
    simp at hl

/-- An array all of whose entries pass the test holds real numbers. -/
theorem real_of_test {s : Shape} (x : FVec Ideal s .f32) (hb : S_.BroadcastsInDim s (![] : Fin 0 → Fin s.rank))
    (h : cmpf .olt (Host.absf x) (broadcastInDim s ![] hb (constant S_ .f32 0x7F800000#32)) = (fun _ => 1#1)) (i : s.Idx) :
    x i = (((x i).toReal : ℝ) : EReal) :=
  real_of_abs_lt (x i) (congrFun h i)

/-- The inputs read off the arrays. -/
def netOf (x0 : FVec Ideal S50000x128 .f32) (x1 : FVec Ideal S50000x512 .f32) (x2 : FVec Ideal S256x128 .f32) (x3 : FVec Ideal S256 .f32) (x4 : FVec Ideal S256 .f32) (x5 : FVec Ideal S256 .f32) (x6 : FVec Ideal S128x256 .f32) (x7 : FVec Ideal S128 .f32) (x8 : FVec Ideal S128x256 .f32) (x9 : FVec Ideal S128 .f32) : Net where
  X := fun i j => x0 (ix2 i j)
  H := fun i j => x1 (ix2 i j)
  W1 := fun i j => x2 (ix2 i j)
  b1 := fun i => (x3 (ix1 i)).toReal
  s := fun i => (x4 (ix1 i)).toReal
  b := fun i => x5 (ix1 i)
  Wc := fun i j => x6 (ix2 i j)
  bc := fun i => x7 (ix1 i)
  Wr := fun i j => x8 (ix2 i j)
  br := fun i => x9 (ix1 i)

/-- Under the precondition the arrays hold these inputs. -/
theorem holds (x0 : FVec Ideal S50000x128 .f32) (x1 : FVec Ideal S50000x512 .f32) (x2 : FVec Ideal S256x128 .f32) (x3 : FVec Ideal S256 .f32) (x4 : FVec Ideal S256 .f32) (x5 : FVec Ideal S256 .f32) (x6 : FVec Ideal S128x256 .f32) (x7 : FVec Ideal S128 .f32) (x8 : FVec Ideal S128x256 .f32) (x9 : FVec Ideal S128 .f32) (x10 x11 : FVec Ideal S128 .f32)
    (h3 : (fn (F := Ideal) x0 x1 x2 x3 x4 x5 x6 x7 x8 x9 x10 x11).1 = (fun _ => 1#1))
    (h4 : (fn (F := Ideal) x0 x1 x2 x3 x4 x5 x6 x7 x8 x9 x10 x11).2 = (fun _ => 1#1))
    : Holds (netOf x0 x1 x2 x3 x4 x5 x6 x7 x8 x9) x0 x1 x2 x3 x4 x5 x6 x7 x8 x9 where
  X := fun _ _ => rfl
  H := fun _ _ => rfl
  W1 := fun _ _ => rfl
  b1 := fun i => real_of_test x3 bcast_S_S256 h3 (ix1 i)
  s := fun i => real_of_test x4 bcast_S_S256 h4 (ix1 i)
  b := fun _ => rfl
  Wc := fun _ _ => rfl
  bc := fun _ => rfl
  Wr := fun _ _ => rfl
  br := fun _ => rfl

end Cert.Pre_finite.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Launch
public import proofs.«01_k».proof.Proof.Printed
public import proofs.«01_k».proof.Proof.Values
public import proofs.«01_k».proof.Proof.RefRows
public import proofs.«01_k».proof.Proof.Finite
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.KernelIdeal.Fused

/-- The idealized kernel ends with its arguments unchanged and every counter at zero. -/
theorem frame_kernelIdeal : Cert.quiescent_KernelIdeal := fun m ρ _ =>
  θ_run_with_sems (Cert.KernelIdeal.Gen.frame_of m ρ (dats m) (fun c w => A_eq m c w)) (run_main m ρ)

/-- The reference ends with its arguments unchanged; it declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The inputs of a device, read off its arguments. -/
abbrev inputs (m : (ℓ : Loc Cert.KernelIdeal.nD Cert.KernelIdeal.τ Cert.KernelIdeal.sig) → Buf (Elt Ideal) ℓ) (c : Dev Cert.KernelIdeal.nD) : Cert.Rows.Net :=
  Cert.Pre_finite.Rows.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- Under the precondition the arguments hold these inputs. -/
theorem inputs_hold (m : (ℓ : Loc Cert.KernelIdeal.nD Cert.KernelIdeal.τ Cert.KernelIdeal.sig) → Buf (Elt Ideal) ℓ) (hp : Cert.Pre_KernelIdeal_finite m)
    (c : Dev Cert.KernelIdeal.nD) : HoldsAt m c (inputs m c) := by
  obtain ⟨h3, h4⟩ := hp c
  exact Cert.Pre_finite.Rows.holds _ _ _ _ _ _ _ _ _ _ _ _ h3 h4

/-- Under the precondition the kernel and the reference both end with the layer's result. -/
theorem algebraic : Cert.algebraic_KernelIdeal_ReferenceIdeal_pre_finite := by
  intro m ρ m' ρ' hp ha
  refine ⟨fun c => result (inputs m c) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r hr c => by
      have h := hr.1
      exact ⟨((h c).1 11).trans (final (inputs_hold m hp c)),
        ((h c).1 0).trans (((dats m 0 c).arrAt_in 0 rfl _).trans ((A_eq m c 0).trans (Cert.KernelIdeal.Gen.V_main_arg0 m c))),
        ((h c).1 1).trans (((dats m 0 c).arrAt_in 1 rfl _).trans ((A_eq m c 1).trans (Cert.KernelIdeal.Gen.V_main_arg1 m c))),
        ((h c).2 Cert.KernelIdeal.main_arg2 (Pipeline.mem_restRefs_of Cert.KernelIdeal.main_arg2 (by decide) (by decide))).trans (Cert.KernelIdeal.Gen.V_main_arg2 m c),
        ((h c).2 Cert.KernelIdeal.main_arg3 (Pipeline.mem_restRefs_of Cert.KernelIdeal.main_arg3 (by decide) (by decide))).trans (Cert.KernelIdeal.Gen.V_main_arg3 m c),
        ((h c).2 Cert.KernelIdeal.main_arg4 (Pipeline.mem_restRefs_of Cert.KernelIdeal.main_arg4 (by decide) (by decide))).trans (Cert.KernelIdeal.Gen.V_main_arg4 m c),
        ((h c).2 Cert.KernelIdeal.main_arg5 (Pipeline.mem_restRefs_of Cert.KernelIdeal.main_arg5 (by decide) (by decide))).trans (Cert.KernelIdeal.Gen.V_main_arg5 m c),
        ((h c).2 Cert.KernelIdeal.main_arg6 (Pipeline.mem_restRefs_of Cert.KernelIdeal.main_arg6 (by decide) (by decide))).trans (Cert.KernelIdeal.Gen.V_main_arg6 m c),
        ((h c).2 Cert.KernelIdeal.main_arg7 (Pipeline.mem_restRefs_of Cert.KernelIdeal.main_arg7 (by decide) (by decide))).trans (Cert.KernelIdeal.Gen.V_main_arg7 m c),
        ((h c).2 Cert.KernelIdeal.main_arg8 (Pipeline.mem_restRefs_of Cert.KernelIdeal.main_arg8 (by decide) (by decide))).trans (Cert.KernelIdeal.Gen.V_main_arg8 m c),
        ((h c).2 Cert.KernelIdeal.main_arg9 (Pipeline.mem_restRefs_of Cert.KernelIdeal.main_arg9 (by decide) (by decide))).trans (Cert.KernelIdeal.Gen.V_main_arg9 m c),
        ((h c).2 Cert.KernelIdeal.main_arg10 (Pipeline.mem_restRefs_of Cert.KernelIdeal.main_arg10 (by decide) (by decide))).trans (Cert.KernelIdeal.Gen.V_main_arg10 m c),
        ((h c).2 Cert.KernelIdeal.main_arg11 (Pipeline.mem_restRefs_of Cert.KernelIdeal.main_arg11 (by decide) (by decide))).trans (Cert.KernelIdeal.Gen.V_main_arg11 m c)⟩) (run_main m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11⟩ := ha c
    rw [Cert.ReferenceIdeal.Read.val_main_v55_eq m' c, e0, e1, e2, e3, e4, e5, e6, e7, e8, e9, e10, e11]
    exact Cert.ReferenceIdeal.Rows.result_ref _ _ (inputs_hold m hp c)

/-- Every claim of the certificate. -/
theorem claim : Cert.Claim :=
  ⟨Cert.Kernel.Gen.facts, Cert.KernelIdeal.Gen.facts, Cert.ReferenceIdeal.Gen.facts, Cert.Pre_finite.Gen.facts,
    Cert.Kernel.Fused.frame, frame_kernelIdeal, fun m ρ _ => frame_kernelIdeal m ρ trivial,
    frame_referenceIdeal, fun m ρ _ => frame_referenceIdeal m ρ trivial,
    IdealRules.named_const.statement Cert.KernelIdeal.κ "inv_255" .f32 0x3B808081#32 _ rfl, algebraic⟩

end Cert.Proof

end
